-- ==== Defs.lean ====
def Pre_Kernel [hPre_rows_in_range : Cert.Pre_rows_in_range.Facts] (m : (ℓ : Loc Cert.Kernel.nD Cert.Kernel.τ Cert.Kernel.sig) → Buf (Elt Bits) ℓ) : Prop :=
  ∀ c : Dev Cert.Kernel.nD,
    (Cert.Pre_rows_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_range [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_rows_in_range [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_rows_in_range : Cert.Pre_rows_in_range.Facts),
    quiescent_Kernel (hKernel := hKernel) (hPre_rows_in_range := hPre_rows_in_range)
    ∧ quiescent_KernelIdeal (hKernelIdeal := hKernelIdeal) (hPre_rows_in_range := hPre_rows_in_range)
    ∧ quiescent_ReferenceIdeal (hReferenceIdeal := hReferenceIdeal)
    ∧ quiescent_ReferenceIdeal_pre_rows_in_range (hReferenceIdeal := hReferenceIdeal) (hPre_rows_in_range := hPre_rows_in_range)
    ∧ preserves_Kernel_KernelIdeal
    ∧ algebraic_KernelIdeal_ReferenceIdeal (hKernelIdeal := hKernelIdeal) (hReferenceIdeal := hReferenceIdeal) (hPre_rows_in_range := hPre_rows_in_range)
-- ==== Pre_rows_in_range.lean ====
abbrev S320000x128 : Shape := ⟨2, ![320000, 128]⟩
abbrev S10000x128 : Shape := ⟨2, ![10000, 128]⟩
abbrev S_ : Shape := ⟨0, ![]⟩

class Facts : Prop where
  bcast_S_S320000x128 : S_.BroadcastsInDim S320000x128 (![] : Fin 0 → Fin S320000x128.rank)
  reducesTo_S320000x128_S_d0_1 : S320000x128.ReducesTo [0, 1] S_
  h_S_ : 0 < S_.numel

variable [Facts]

def fn {F : FTy → Type} [FloatOps F] (main_arg0 : IVec S320000x128 32) (main_arg1 : FVec F S10000x128 .f32) (main_arg2 : FVec F S10000x128 .f32) (main_arg3 : FVec F S320000x128 .f32) : IVec S_ 1 :=
  let main_c : IVec S_ 32 := constantI S_ 32 0#32
  let main_v0 : IVec S320000x128 32 := broadcastInDim S320000x128 ![] bcast_S_S320000x128 main_c
  let main_v1 : IVec S320000x128 1 := cmpi .sge main_arg0 main_v0
  let main_c_0 : IVec S_ 32 := constantI S_ 32 10000#32
  let main_v2 : IVec S320000x128 32 := broadcastInDim S320000x128 ![] bcast_S_S320000x128 main_c_0
  let main_v3 : IVec S320000x128 1 := cmpi .slt main_arg0 main_v2
  let main_v4 : IVec S320000x128 1 := andi main_v1 main_v3
  let main_c_1 : IVec S_ 1 := constantI S_ 1 1#1
  let main_v5 : IVec S_ 1 := (fun x v => Host.reduce IntOp.andi x v reducesTo_S320000x128_S_d0_1 h_S_) main_v4 main_c_1
  main_v5
-- ==== Kernel.lean ====
abbrev S320000x128 : Shape := ⟨2, ![320000, 128]⟩
abbrev S10000x128 : Shape := ⟨2, ![10000, 128]⟩
abbrev S128x320000 : Shape := ⟨2, ![128, 320000]⟩
abbrev S3200x128 : Shape := ⟨2, ![3200, 128]⟩
abbrev S128x3200 : Shape := ⟨2, ![128, 3200]⟩
abbrev S2x16x80000 : Shape := ⟨3, ![2, 16, 80000]⟩
abbrev S80000 : Shape := ⟨1, ![80000]⟩
abbrev S5x8x128 : Shape := ⟨3, ![5, 8, 128]⟩
abbrev S_ : Shape := ⟨0, ![]⟩
abbrev S16 : Shape := ⟨1, ![16]⟩
abbrev S1x8x128 : Shape := ⟨3, ![1, 8, 128]⟩
abbrev S8x128 : Shape := ⟨2, ![8, 128]⟩
abbrev S1x1x80000 : Shape := ⟨3, ![1, 1, 80000]⟩
abbrev S2x16x10000x8 : Shape := ⟨4, ![2, 16, 10000, 8]⟩
abbrev S2x10000x16x8 : Shape := ⟨4, ![2, 10000, 16, 8]⟩
abbrev S2x10000x128 : Shape := ⟨3, ![2, 10000, 128]⟩
abbrev S1000x128 : Shape := ⟨2, ![1000, 128]⟩
abbrev S2x1000x128 : Shape := ⟨3, ![2, 1000, 128]⟩
abbrev S1x1000x128 : Shape := ⟨3, ![1, 1000, 128]⟩

abbrev nBuf : Table → Nat
  | .hbm => 11
  | .local .tc .vmem => 16
  | .local .scVector .vmem => 5
  | _ => 0

abbrev bufTy : (tb : Table) → Fin (nBuf tb) → BufTy
  | .hbm, ⟨0, _⟩ => ⟨S320000x128, .i32⟩
  | .hbm, ⟨1, _⟩ => ⟨S10000x128, .f32⟩
  | .hbm, ⟨2, _⟩ => ⟨S10000x128, .f32⟩
  | .hbm, ⟨3, _⟩ => ⟨S320000x128, .f32⟩
  | .hbm, ⟨4, _⟩ => ⟨S128x320000, .i32⟩
  | .hbm, ⟨5, _⟩ => ⟨S128x320000, .f32⟩
  | .hbm, ⟨6, _⟩ => ⟨S2x16x80000, .f32⟩
  | .hbm, ⟨7, _⟩ => ⟨S2x16x10000x8, .f32⟩
  | .hbm, ⟨8, _⟩ => ⟨S2x10000x16x8, .f32⟩
  | .hbm, ⟨9, _⟩ => ⟨S2x10000x128, .f32⟩
  | .hbm, ⟨10, _⟩ => ⟨S10000x128, .f32⟩
  | .local .tc .vmem, ⟨0, _⟩ => ⟨S3200x128, .i32⟩
  | .local .tc .vmem, ⟨1, _⟩ => ⟨S3200x128, .i32⟩
  | .local .tc .vmem, ⟨2, _⟩ => ⟨S3200x128, .f32⟩
  | .local .tc .vmem, ⟨3, _⟩ => ⟨S3200x128, .f32⟩
  | .local .tc .vmem, ⟨4, _⟩ => ⟨S128x3200, .i32⟩
  | .local .tc .vmem, ⟨5, _⟩ => ⟨S128x3200, .i32⟩
  | .local .tc .vmem, ⟨6, _⟩ => ⟨S128x3200, .f32⟩
  | .local .tc .vmem, ⟨7, _⟩ => ⟨S128x3200, .f32⟩
  | .local .tc .vmem, ⟨8, _⟩ => ⟨S1000x128, .f32⟩
  | .local .tc .vmem, ⟨9, _⟩ => ⟨S1000x128, .f32⟩
  | .local .tc .vmem, ⟨10, _⟩ => ⟨S1000x128, .f32⟩
  | .local .tc .vmem, ⟨11, _⟩ => ⟨S1000x128, .f32⟩
  | .local .tc .vmem, ⟨12, _⟩ => ⟨S2x1000x128, .f32⟩
  | .local .tc .vmem, ⟨13, _⟩ => ⟨S2x1000x128, .f32⟩
  | .local .tc .vmem, ⟨14, _⟩ => ⟨S1000x128, .f32⟩
  | .local .tc .vmem, ⟨15, _⟩ => ⟨S1000x128, .f32⟩
  | .local .scVector .vmem, ⟨0, _⟩ => ⟨S80000, .f32⟩
  | .local .scVector .vmem, ⟨1, _⟩ => ⟨S5x8x128, .i32⟩
  | .local .scVector .vmem, ⟨2, _⟩ => ⟨S5x8x128, .i32⟩
  | .local .scVector .vmem, ⟨3, _⟩ => ⟨S5x8x128, .f32⟩
  | .local .scVector .vmem, ⟨4, _⟩ => ⟨S5x8x128, .f32⟩
  | _, _ => ⟨S320000x128, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v0_0_scv : Ref sig .scVector := ⟨.hbm, 4, rfl⟩
abbrev main_v0_1_scv : Ref sig .scVector := ⟨.hbm, 5, rfl⟩
abbrev main_v1_scv : Ref sig .scVector := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3200x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3200 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) (c0_i32_2 : BitVec 32) : Fin 2 → Nat :=
  let arg1 : BitVec 32 := BitVec.ofNat 32 (i 1).val
  let c8_i32 : BitVec 32 := 8#32
  let v0 : BitVec 32 := Scalar.muli arg1 c8_i32
  let arg0 : BitVec 32 := BitVec.ofNat 32 (i 0).val
  let c160000_i32 : BitVec 32 := 160000#32
  let v1 : BitVec 32 := Scalar.muli arg0 c160000_i32
  let c0_i32 : BitVec 32 := 0#32
  let v12 : BitVec 32 := Scalar.addi v1 c0_i32
  let v13 : BitVec 32 := Scalar.addi v12 c0_i32_2
  ![v0.toNat, v13.toNat]
@[reducible] def k1_t1_loop : Scf.Loop 32 :=
  let c0_i32_50 : BitVec 32 := 0#32
  let c5000_i32 : BitVec 32 := 5000#32
  let v78 : BitVec 32 := Scalar.addi c0_i32_50 c5000_i32
  let c1_i32_51 : BitVec 32 := 1#32
  ⟨c0_i32_50, v78, c1_i32_51⟩
def k1_off2 (k1_t1 : Fin k1_t1_loop.trips) : Fin 1 → Nat :=
  let c16_i32 : BitVec 32 := 16#32
  let c0_i32_57 : BitVec 32 := 0#32
  let c0_i32_50 : BitVec 32 := 0#32
  let c1_i32_51 : BitVec 32 := 1#32
  let arg14 : BitVec 32 := Scf.iv c0_i32_50 c1_i32_51 k1_t1
  let c1_i32_56 : BitVec 32 := 1#32
  let v80 : BitVec 32 := Scalar.muli arg14 c1_i32_56
  let v81 : BitVec 32 := Scalar.addi c0_i32_57 v80
  let v82 : BitVec 32 := Scalar.muli c16_i32 v81
  let v83 : Index := Scalar.indexCast v82
  ![v83.toNat]
@[reducible] def k1_t2_loop : Scf.Loop 32 :=
  let c0_i32_53 : BitVec 32 := 0#32
  let c125_i32 : BitVec 32 := 125#32
  let v79 : BitVec 32 := Scalar.addi c0_i32_53 c125_i32
  let c1_i32_54 : BitVec 32 := 1#32
  ⟨c0_i32_53, v79, c1_i32_54⟩
def k1_off3 (i : grid1.Coords) (k1_t2 : Fin k1_t2_loop.trips) (c0_i32_59 : BitVec 32) : Fin 2 → Nat :=
  let arg1 : BitVec 32 := BitVec.ofNat 32 (i 1).val
  let c8_i32 : BitVec 32 := 8#32
  let v0 : BitVec 32 := Scalar.muli arg1 c8_i32
  let arg0 : BitVec 32 := BitVec.ofNat 32 (i 0).val
  let c160000_i32 : BitVec 32 := 160000#32
  let v1 : BitVec 32 := Scalar.muli arg0 c160000_i32
  let c2_i32_58 : BitVec 32 := 2#32
  let c0_i32_57 : BitVec 32 := 0#32
  let c0_i32_53 : BitVec 32 := 0#32
  let c1_i32_54 : BitVec 32 := 1#32
  let arg14 : BitVec 32 := Scf.iv c0_i32_53 c1_i32_54 k1_t2
  let c1_i32_56 : BitVec 32 := 1#32
  let v80 : BitVec 32 := Scalar.muli arg14 c1_i32_56
  let v81 : BitVec 32 := Scalar.addi c0_i32_57 v80
  let v82 : BitVec 32 := Scalar.muli c2_i32_58 v81
  let c640_i32 : BitVec 32 := 640#32
  let v83 : BitVec 32 := Scalar.muli v82 c640_i32
  let v84 : BitVec 32 := Scalar.addi v1 v83
  let v85 : BitVec 32 := Scalar.addi v84 c0_i32_59
  ![v0.toNat, v85.toNat]
def k1_off4 (i : grid1.Coords) (k1_t2 : Fin k1_t2_loop.trips) (c0_i32_116 : BitVec 32) : Fin 2 → Nat :=
  let arg1 : BitVec 32 := BitVec.ofNat 32 (i 1).val
  let c8_i32 : BitVec 32 := 8#32
  let v0 : BitVec 32 := Scalar.muli arg1 c8_i32
  let arg0 : BitVec 32 := BitVec.ofNat 32 (i 0).val
  let c160000_i32 : BitVec 32 := 160000#32
  let v1 : BitVec 32 := Scalar.muli arg0 c160000_i32
  let c2_i32_58 : BitVec 32 := 2#32
  let c0_i32_57 : BitVec 32 := 0#32
  let c0_i32_53 : BitVec 32 := 0#32
  let c1_i32_54 : BitVec 32 := 1#32
  let arg14 : BitVec 32 := Scf.iv c0_i32_53 c1_i32_54 k1_t2
  let c1_i32_56 : BitVec 32 := 1#32
  let v80 : BitVec 32 := Scalar.muli arg14 c1_i32_56
  let v81 : BitVec 32 := Scalar.addi c0_i32_57 v80
  let v82 : BitVec 32 := Scalar.muli c2_i32_58 v81
  let c1_i32_114 : BitVec 32 := 1#32
  let v150 : BitVec 32 := Scalar.addi v82 c1_i32_114
  let c640_i32_115 : BitVec 32 := 640#32
  let v151 : BitVec 32 := Scalar.muli v150 c640_i32_115
  let v152 : BitVec 32 := Scalar.addi v1 v151
  let v153 : BitVec 32 := Scalar.addi v152 c0_i32_116
  ![v0.toNat, v153.toNat]
@[reducible] def k1_t3_loop : Scf.Loop 32 :=
  let c0_i32_172 : BitVec 32 := 0#32
  let c64_i32 : BitVec 32 := 64#32
  let v219 : BitVec 32 := Scalar.addi c0_i32_172 c64_i32
  let c1_i32_173 : BitVec 32 := 1#32
  ⟨c0_i32_172, v219, c1_i32_173⟩

def k1_chk1 (v4 : IVec S16 32) (v218 : IVec S16 32) (v313 : IVec S16 32) : Prop :=
  (∀ a x, ((![v218, v4, v313] : Fin 3 → IVec S16 32) a x).toNat < S5x8x128.size a) ∧
  (∀ a x, ((![v218, v4, v313] : Fin 3 → IVec S16 32) a x).toNat < S5x8x128.size a)
theorem k1_idx1_inb : ∀ (v4 : IVec S16 32) (v218 : IVec S16 32) (v313 : IVec S16 32) (k1_hw1 : k1_chk1 v4 v218 v313), ∀ a x, ((![v218, v4, v313] : Fin 3 → IVec S16 32) a x).toNat < S5x8x128.size a := fun v4 v218 v313 k1_hw1 => k1_hw1.1
theorem k1_idx2_inb : ∀ (v4 : IVec S16 32) (v218 : IVec S16 32) (v313 : IVec S16 32) (k1_hw1 : k1_chk1 v4 v218 v313), ∀ a x, ((![v218, v4, v313] : Fin 3 → IVec S16 32) a x).toNat < S5x8x128.size a := fun v4 v218 v313 k1_hw1 => k1_hw1.2

def k1_chk2 (v318 : IVec S16 32) : Prop :=
  (∀ a x, ((![v318] : Fin 1 → IVec S16 32) a x).toNat < S80000.size a) ∧
  (∀ a x, ((![v318] : Fin 1 → IVec S16 32) a x).toNat < S80000.size a)
theorem k1_idx3_inb : ∀ (v318 : IVec S16 32) (k1_hw2 : k1_chk2 v318), ∀ a x, ((![v318] : Fin 1 → IVec S16 32) a x).toNat < S80000.size a := fun v318 k1_hw2 => k1_hw2.1
theorem k1_idx4_inb : ∀ (v318 : IVec S16 32) (k1_hw2 : k1_chk2 v318), ∀ a x, ((![v318] : Fin 1 → IVec S16 32) a x).toNat < S80000.size a := fun v318 k1_hw2 => k1_hw2.2
@[reducible] def k1_t4_loop : Scf.Loop 32 :=
  let c0_i32_176 : BitVec 32 := 0#32
  let c64_i32_177 : BitVec 32 := 64#32
  let v221 : BitVec 32 := Scalar.addi c0_i32_176 c64_i32_177
  let c1_i32_178 : BitVec 32 := 1#32
  ⟨c0_i32_176, v221, c1_i32_178⟩

def k1_chk3 (v4 : IVec S16 32) (v220 : IVec S16 32) (v313 : IVec S16 32) : Prop :=
  (∀ a x, ((![v220, v4, v313] : Fin 3 → IVec S16 32) a x).toNat < S5x8x128.size a) ∧
  (∀ a x, ((![v220, v4, v313] : Fin 3 → IVec S16 32) a x).toNat < S5x8x128.size a)
theorem k1_idx5_inb : ∀ (v4 : IVec S16 32) (v220 : IVec S16 32) (v313 : IVec S16 32) (k1_hw3 : k1_chk3 v4 v220 v313), ∀ a x, ((![v220, v4, v313] : Fin 3 → IVec S16 32) a x).toNat < S5x8x128.size a := fun v4 v220 v313 k1_hw3 => k1_hw3.1
theorem k1_idx6_inb : ∀ (v4 : IVec S16 32) (v220 : IVec S16 32) (v313 : IVec S16 32) (k1_hw3 : k1_chk3 v4 v220 v313), ∀ a x, ((![v220, v4, v313] : Fin 3 → IVec S16 32) a x).toNat < S5x8x128.size a := fun v4 v220 v313 k1_hw3 => k1_hw3.2

def k1_chk4 (v318 : IVec S16 32) : Prop :=
  (∀ a x, ((![v318] : Fin 1 → IVec S16 32) a x).toNat < S80000.size a) ∧
  (∀ a x, ((![v318] : Fin 1 → IVec S16 32) a x).toNat < S80000.size a)
theorem k1_idx7_inb : ∀ (v318 : IVec S16 32) (k1_hw4 : k1_chk4 v318), ∀ a x, ((![v318] : Fin 1 → IVec S16 32) a x).toNat < S80000.size a := fun v318 k1_hw4 => k1_hw4.1
theorem k1_idx8_inb : ∀ (v318 : IVec S16 32) (k1_hw4 : k1_chk4 v318), ∀ a x, ((![v318] : Fin 1 → IVec S16 32) a x).toNat < S80000.size a := fun v318 k1_hw4 => k1_hw4.2
@[reducible] def k1_t5_loop : Scf.Loop 32 :=
  let c0_i32_181 : BitVec 32 := 0#32
  let c64_i32_182 : BitVec 32 := 64#32
  let v223 : BitVec 32 := Scalar.addi c0_i32_181 c64_i32_182
  let c1_i32_183 : BitVec 32 := 1#32
  ⟨c0_i32_181, v223, c1_i32_183⟩

def k1_chk5 (v4 : IVec S16 32) (v222 : IVec S16 32) (v313 : IVec S16 32) : Prop :=
  (∀ a x, ((![v222, v4, v313] : Fin 3 → IVec S16 32) a x).toNat < S5x8x128.size a) ∧
  (∀ a x, ((![v222, v4, v313] : Fin 3 → IVec S16 32) a x).toNat < S5x8x128.size a)
theorem k1_idx9_inb : ∀ (v4 : IVec S16 32) (v222 : IVec S16 32) (v313 : IVec S16 32) (k1_hw5 : k1_chk5 v4 v222 v313), ∀ a x, ((![v222, v4, v313] : Fin 3 → IVec S16 32) a x).toNat < S5x8x128.size a := fun v4 v222 v313 k1_hw5 => k1_hw5.1
theorem k1_idx10_inb : ∀ (v4 : IVec S16 32) (v222 : IVec S16 32) (v313 : IVec S16 32) (k1_hw5 : k1_chk5 v4 v222 v313), ∀ a x, ((![v222, v4, v313] : Fin 3 → IVec S16 32) a x).toNat < S5x8x128.size a := fun v4 v222 v313 k1_hw5 => k1_hw5.2

def k1_chk6 (v318 : IVec S16 32) : Prop :=
  (∀ a x, ((![v318] : Fin 1 → IVec S16 32) a x).toNat < S80000.size a) ∧
  (∀ a x, ((![v318] : Fin 1 → IVec S16 32) a x).toNat < S80000.size a)
theorem k1_idx11_inb : ∀ (v318 : IVec S16 32) (k1_hw6 : k1_chk6 v318), ∀ a x, ((![v318] : Fin 1 → IVec S16 32) a x).toNat < S80000.size a := fun v318 k1_hw6 => k1_hw6.1
theorem k1_idx12_inb : ∀ (v318 : IVec S16 32) (k1_hw6 : k1_chk6 v318), ∀ a x, ((![v318] : Fin 1 → IVec S16 32) a x).toNat < S80000.size a := fun v318 k1_hw6 => k1_hw6.2
@[reducible] def k1_t6_loop : Scf.Loop 32 :=
  let c0_i32_186 : BitVec 32 := 0#32
  let c64_i32_187 : BitVec 32 := 64#32
  let v225 : BitVec 32 := Scalar.addi c0_i32_186 c64_i32_187
  let c1_i32_188 : BitVec 32 := 1#32
  ⟨c0_i32_186, v225, c1_i32_188⟩

def k1_chk7 (v4 : IVec S16 32) (v224 : IVec S16 32) (v313 : IVec S16 32) : Prop :=
  (∀ a x, ((![v224, v4, v313] : Fin 3 → IVec S16 32) a x).toNat < S5x8x128.size a) ∧
  (∀ a x, ((![v224, v4, v313] : Fin 3 → IVec S16 32) a x).toNat < S5x8x128.size a)
theorem k1_idx13_inb : ∀ (v4 : IVec S16 32) (v224 : IVec S16 32) (v313 : IVec S16 32) (k1_hw7 : k1_chk7 v4 v224 v313), ∀ a x, ((![v224, v4, v313] : Fin 3 → IVec S16 32) a x).toNat < S5x8x128.size a := fun v4 v224 v313 k1_hw7 => k1_hw7.1
theorem k1_idx14_inb : ∀ (v4 : IVec S16 32) (v224 : IVec S16 32) (v313 : IVec S16 32) (k1_hw7 : k1_chk7 v4 v224 v313), ∀ a x, ((![v224, v4, v313] : Fin 3 → IVec S16 32) a x).toNat < S5x8x128.size a := fun v4 v224 v313 k1_hw7 => k1_hw7.2

def k1_chk8 (v318 : IVec S16 32) : Prop :=
  (∀ a x, ((![v318] : Fin 1 → IVec S16 32) a x).toNat < S80000.size a) ∧
  (∀ a x, ((![v318] : Fin 1 → IVec S16 32) a x).toNat < S80000.size a)
theorem k1_idx15_inb : ∀ (v318 : IVec S16 32) (k1_hw8 : k1_chk8 v318), ∀ a x, ((![v318] : Fin 1 → IVec S16 32) a x).toNat < S80000.size a := fun v318 k1_hw8 => k1_hw8.1
theorem k1_idx16_inb : ∀ (v318 : IVec S16 32) (k1_hw8 : k1_chk8 v318), ∀ a x, ((![v318] : Fin 1 → IVec S16 32) a x).toNat < S80000.size a := fun v318 k1_hw8 => k1_hw8.2
@[reducible] def k1_t7_loop : Scf.Loop 32 :=
  let c0_i32_191 : BitVec 32 := 0#32
  let c64_i32_192 : BitVec 32 := 64#32
  let v227 : BitVec 32 := Scalar.addi c0_i32_191 c64_i32_192
  let c1_i32_193 : BitVec 32 := 1#32
  ⟨c0_i32_191, v227, c1_i32_193⟩

def k1_chk9 (v4 : IVec S16 32) (v226 : IVec S16 32) (v313 : IVec S16 32) : Prop :=
  (∀ a x, ((![v226, v4, v313] : Fin 3 → IVec S16 32) a x).toNat < S5x8x128.size a) ∧
  (∀ a x, ((![v226, v4, v313] : Fin 3 → IVec S16 32) a x).toNat < S5x8x128.size a)
theorem k1_idx17_inb : ∀ (v4 : IVec S16 32) (v226 : IVec S16 32) (v313 : IVec S16 32) (k1_hw9 : k1_chk9 v4 v226 v313), ∀ a x, ((![v226, v4, v313] : Fin 3 → IVec S16 32) a x).toNat < S5x8x128.size a := fun v4 v226 v313 k1_hw9 => k1_hw9.1
theorem k1_idx18_inb : ∀ (v4 : IVec S16 32) (v226 : IVec S16 32) (v313 : IVec S16 32) (k1_hw9 : k1_chk9 v4 v226 v313), ∀ a x, ((![v226, v4, v313] : Fin 3 → IVec S16 32) a x).toNat < S5x8x128.size a := fun v4 v226 v313 k1_hw9 => k1_hw9.2

def k1_chk10 (v318 : IVec S16 32) : Prop :=
  (∀ a x, ((![v318] : Fin 1 → IVec S16 32) a x).toNat < S80000.size a) ∧
  (∀ a x, ((![v318] : Fin 1 → IVec S16 32) a x).toNat < S80000.size a)
theorem k1_idx19_inb : ∀ (v318 : IVec S16 32) (k1_hw10 : k1_chk10 v318), ∀ a x, ((![v318] : Fin 1 → IVec S16 32) a x).toNat < S80000.size a := fun v318 k1_hw10 => k1_hw10.1
theorem k1_idx20_inb : ∀ (v318 : IVec S16 32) (k1_hw10 : k1_chk10 v318), ∀ a x, ((![v318] : Fin 1 → IVec S16 32) a x).toNat < S80000.size a := fun v318 k1_hw10 => k1_hw10.2
def k1_off5 (i : grid1.Coords) (k1_t2 : Fin k1_t2_loop.trips) (c0_i32_197 : BitVec 32) : Fin 2 → Nat :=
  let arg1 : BitVec 32 := BitVec.ofNat 32 (i 1).val
  let c8_i32 : BitVec 32 := 8#32
  let v0 : BitVec 32 := Scalar.muli arg1 c8_i32
  let arg0 : BitVec 32 := BitVec.ofNat 32 (i 0).val
  let c160000_i32 : BitVec 32 := 160000#32
  let v1 : BitVec 32 := Scalar.muli arg0 c160000_i32
  let c2_i32_58 : BitVec 32 := 2#32
  let c0_i32_57 : BitVec 32 := 0#32
  let c0_i32_53 : BitVec 32 := 0#32
  let c1_i32_54 : BitVec 32 := 1#32
  let arg14 : BitVec 32 := Scf.iv c0_i32_53 c1_i32_54 k1_t2
  let c1_i32_56 : BitVec 32 := 1#32
  let v80 : BitVec 32 := Scalar.muli arg14 c1_i32_56
  let v81 : BitVec 32 := Scalar.addi c0_i32_57 v80
  let v82 : BitVec 32 := Scalar.muli c2_i32_58 v81
  let c1_i32_195 : BitVec 32 := 1#32
  let v228 : BitVec 32 := Scalar.addi v82 c1_i32_195
  let c640_i32_196 : BitVec 32 := 640#32
  let v229 : BitVec 32 := Scalar.muli v228 c640_i32_196
  let v230 : BitVec 32 := Scalar.addi v1 v229
  let v231 : BitVec 32 := Scalar.addi v230 c0_i32_197
  ![v0.toNat, v231.toNat]
def k1_cond1 (k1_t2 : Fin k1_t2_loop.trips) : BitVec 1 :=
  let c0_i32_57 : BitVec 32 := 0#32
  let c0_i32_53 : BitVec 32 := 0#32
  let c1_i32_54 : BitVec 32 := 1#32
  let arg14 : BitVec 32 := Scf.iv c0_i32_53 c1_i32_54 k1_t2
  let c1_i32_56 : BitVec 32 := 1#32
  let v80 : BitVec 32 := Scalar.muli arg14 c1_i32_56
  let v81 : BitVec 32 := Scalar.addi c0_i32_57 v80
  let c124_i32 : BitVec 32 := 124#32
  let v296 : BitVec 1 := Scalar.cmpi .slt v81 c124_i32
  let v297 : BitVec 32 := Scalar.extui v296
  let c0_i32_252 : BitVec 32 := 0#32
  let v298 : BitVec 1 := Scalar.cmpi .ne v297 c0_i32_252
  v298

def k1_off6 (i : grid1.Coords) (k1_t2 : Fin k1_t2_loop.trips) (c0_i32_280 : BitVec 32) : Fin 2 → Nat :=
  let arg1 : BitVec 32 := BitVec.ofNat 32 (i 1).val
  let c8_i32 : BitVec 32 := 8#32
  let v0 : BitVec 32 := Scalar.muli arg1 c8_i32
  let arg0 : BitVec 32 := BitVec.ofNat 32 (i 0).val
  let c160000_i32 : BitVec 32 := 160000#32
  let v1 : BitVec 32 := Scalar.muli arg0 c160000_i32
  let c2_i32_58 : BitVec 32 := 2#32
  let c0_i32_57 : BitVec 32 := 0#32
  let c0_i32_53 : BitVec 32 := 0#32
  let c1_i32_54 : BitVec 32 := 1#32
  let arg14 : BitVec 32 := Scf.iv c0_i32_53 c1_i32_54 k1_t2
  let c1_i32_56 : BitVec 32 := 1#32
  let v80 : BitVec 32 := Scalar.muli arg14 c1_i32_56
  let v81 : BitVec 32 := Scalar.addi c0_i32_57 v80
  let v82 : BitVec 32 := Scalar.muli c2_i32_58 v81
  let c2_i32_278 : BitVec 32 := 2#32
  let v309 : BitVec 32 := Scalar.addi v82 c2_i32_278
  let c640_i32_279 : BitVec 32 := 640#32
  let v310 : BitVec 32 := Scalar.muli v309 c640_i32_279
  let v311 : BitVec 32 := Scalar.addi v1 v310
  let v312 : BitVec 32 := Scalar.addi v311 c0_i32_280
  ![v0.toNat, v312.toNat]
@[reducible] def k1_t8_loop : Scf.Loop 32 :=
  let c0_i32_254 : BitVec 32 := 0#32
  let c64_i32_255 : BitVec 32 := 64#32
  let v300 : BitVec 32 := Scalar.addi c0_i32_254 c64_i32_255
  let c1_i32_256 : BitVec 32 := 1#32
  ⟨c0_i32_254, v300, c1_i32_256⟩

def k1_chk11 (v4 : IVec S16 32) (v299 : IVec S16 32) (v313 : IVec S16 32) : Prop :=
  (∀ a x, ((![v299, v4, v313] : Fin 3 → IVec S16 32) a x).toNat < S5x8x128.size a) ∧
  (∀ a x, ((![v299, v4, v313] : Fin 3 → IVec S16 32) a x).toNat < S5x8x128.size a)
theorem k1_idx21_inb : ∀ (v4 : IVec S16 32) (v299 : IVec S16 32) (v313 : IVec S16 32) (k1_hw11 : k1_chk11 v4 v299 v313), ∀ a x, ((![v299, v4, v313] : Fin 3 → IVec S16 32) a x).toNat < S5x8x128.size a := fun v4 v299 v313 k1_hw11 => k1_hw11.1
theorem k1_idx22_inb : ∀ (v4 : IVec S16 32) (v299 : IVec S16 32) (v313 : IVec S16 32) (k1_hw11 : k1_chk11 v4 v299 v313), ∀ a x, ((![v299, v4, v313] : Fin 3 → IVec S16 32) a x).toNat < S5x8x128.size a := fun v4 v299 v313 k1_hw11 => k1_hw11.2

def k1_chk12 (v318 : IVec S16 32) : Prop :=
  (∀ a x, ((![v318] : Fin 1 → IVec S16 32) a x).toNat < S80000.size a) ∧
  (∀ a x, ((![v318] : Fin 1 → IVec S16 32) a x).toNat < S80000.size a)
theorem k1_idx23_inb : ∀ (v318 : IVec S16 32) (k1_hw12 : k1_chk12 v318), ∀ a x, ((![v318] : Fin 1 → IVec S16 32) a x).toNat < S80000.size a := fun v318 k1_hw12 => k1_hw12.1
theorem k1_idx24_inb : ∀ (v318 : IVec S16 32) (k1_hw12 : k1_chk12 v318), ∀ a x, ((![v318] : Fin 1 → IVec S16 32) a x).toNat < S80000.size a := fun v318 k1_hw12 => k1_hw12.2
@[reducible] def k1_t9_loop : Scf.Loop 32 :=
  let c0_i32_259 : BitVec 32 := 0#32
  let c64_i32_260 : BitVec 32 := 64#32
  let v302 : BitVec 32 := Scalar.addi c0_i32_259 c64_i32_260
  let c1_i32_261 : BitVec 32 := 1#32
  ⟨c0_i32_259, v302, c1_i32_261⟩

def k1_chk13 (v4 : IVec S16 32) (v301 : IVec S16 32) (v313 : IVec S16 32) : Prop :=
  (∀ a x, ((![v301, v4, v313] : Fin 3 → IVec S16 32) a x).toNat < S5x8x128.size a) ∧
  (∀ a x, ((![v301, v4, v313] : Fin 3 → IVec S16 32) a x).toNat < S5x8x128.size a)
theorem k1_idx25_inb : ∀ (v4 : IVec S16 32) (v301 : IVec S16 32) (v313 : IVec S16 32) (k1_hw13 : k1_chk13 v4 v301 v313), ∀ a x, ((![v301, v4, v313] : Fin 3 → IVec S16 32) a x).toNat < S5x8x128.size a := fun v4 v301 v313 k1_hw13 => k1_hw13.1
theorem k1_idx26_inb : ∀ (v4 : IVec S16 32) (v301 : IVec S16 32) (v313 : IVec S16 32) (k1_hw13 : k1_chk13 v4 v301 v313), ∀ a x, ((![v301, v4, v313] : Fin 3 → IVec S16 32) a x).toNat < S5x8x128.size a := fun v4 v301 v313 k1_hw13 => k1_hw13.2

def k1_chk14 (v318 : IVec S16 32) : Prop :=
  (∀ a x, ((![v318] : Fin 1 → IVec S16 32) a x).toNat < S80000.size a) ∧
  (∀ a x, ((![v318] : Fin 1 → IVec S16 32) a x).toNat < S80000.size a)
theorem k1_idx27_inb : ∀ (v318 : IVec S16 32) (k1_hw14 : k1_chk14 v318), ∀ a x, ((![v318] : Fin 1 → IVec S16 32) a x).toNat < S80000.size a := fun v318 k1_hw14 => k1_hw14.1
theorem k1_idx28_inb : ∀ (v318 : IVec S16 32) (k1_hw14 : k1_chk14 v318), ∀ a x, ((![v318] : Fin 1 → IVec S16 32) a x).toNat < S80000.size a := fun v318 k1_hw14 => k1_hw14.2
@[reducible] def k1_t10_loop : Scf.Loop 32 :=
  let c0_i32_264 : BitVec 32 := 0#32
  let c64_i32_265 : BitVec 32 := 64#32
  let v304 : BitVec 32 := Scalar.addi c0_i32_264 c64_i32_265
  let c1_i32_266 : BitVec 32 := 1#32
  ⟨c0_i32_264, v304, c1_i32_266⟩

def k1_chk15 (v4 : IVec S16 32) (v303 : IVec S16 32) (v313 : IVec S16 32) : Prop :=
  (∀ a x, ((![v303, v4, v313] : Fin 3 → IVec S16 32) a x).toNat < S5x8x128.size a) ∧
  (∀ a x, ((![v303, v4, v313] : Fin 3 → IVec S16 32) a x).toNat < S5x8x128.size a)
theorem k1_idx29_inb : ∀ (v4 : IVec S16 32) (v303 : IVec S16 32) (v313 : IVec S16 32) (k1_hw15 : k1_chk15 v4 v303 v313), ∀ a x, ((![v303, v4, v313] : Fin 3 → IVec S16 32) a x).toNat < S5x8x128.size a := fun v4 v303 v313 k1_hw15 => k1_hw15.1
theorem k1_idx30_inb : ∀ (v4 : IVec S16 32) (v303 : IVec S16 32) (v313 : IVec S16 32) (k1_hw15 : k1_chk15 v4 v303 v313), ∀ a x, ((![v303, v4, v313] : Fin 3 → IVec S16 32) a x).toNat < S5x8x128.size a := fun v4 v303 v313 k1_hw15 => k1_hw15.2

def k1_chk16 (v318 : IVec S16 32) : Prop :=
  (∀ a x, ((![v318] : Fin 1 → IVec S16 32) a x).toNat < S80000.size a) ∧
  (∀ a x, ((![v318] : Fin 1 → IVec S16 32) a x).toNat < S80000.size a)
theorem k1_idx31_inb : ∀ (v318 : IVec S16 32) (k1_hw16 : k1_chk16 v318), ∀ a x, ((![v318] : Fin 1 → IVec S16 32) a x).toNat < S80000.size a := fun v318 k1_hw16 => k1_hw16.1
theorem k1_idx32_inb : ∀ (v318 : IVec S16 32) (k1_hw16 : k1_chk16 v318), ∀ a x, ((![v318] : Fin 1 → IVec S16 32) a x).toNat < S80000.size a := fun v318 k1_hw16 => k1_hw16.2
@[reducible] def k1_t11_loop : Scf.Loop 32 :=
  let c0_i32_269 : BitVec 32 := 0#32
  let c64_i32_270 : BitVec 32 := 64#32
  let v306 : BitVec 32 := Scalar.addi c0_i32_269 c64_i32_270
  let c1_i32_271 : BitVec 32 := 1#32
  ⟨c0_i32_269, v306, c1_i32_271⟩

def k1_chk17 (v4 : IVec S16 32) (v305 : IVec S16 32) (v313 : IVec S16 32) : Prop :=
  (∀ a x, ((![v305, v4, v313] : Fin 3 → IVec S16 32) a x).toNat < S5x8x128.size a) ∧
  (∀ a x, ((![v305, v4, v313] : Fin 3 → IVec S16 32) a x).toNat < S5x8x128.size a)
theorem k1_idx33_inb : ∀ (v4 : IVec S16 32) (v305 : IVec S16 32) (v313 : IVec S16 32) (k1_hw17 : k1_chk17 v4 v305 v313), ∀ a x, ((![v305, v4, v313] : Fin 3 → IVec S16 32) a x).toNat < S5x8x128.size a := fun v4 v305 v313 k1_hw17 => k1_hw17.1
theorem k1_idx34_inb : ∀ (v4 : IVec S16 32) (v305 : IVec S16 32) (v313 : IVec S16 32) (k1_hw17 : k1_chk17 v4 v305 v313), ∀ a x, ((![v305, v4, v313] : Fin 3 → IVec S16 32) a x).toNat < S5x8x128.size a := fun v4 v305 v313 k1_hw17 => k1_hw17.2

def k1_chk18 (v318 : IVec S16 32) : Prop :=
  (∀ a x, ((![v318] : Fin 1 → IVec S16 32) a x).toNat < S80000.size a) ∧
  (∀ a x, ((![v318] : Fin 1 → IVec S16 32) a x).toNat < S80000.size a)
theorem k1_idx35_inb : ∀ (v318 : IVec S16 32) (k1_hw18 : k1_chk18 v318), ∀ a x, ((![v318] : Fin 1 → IVec S16 32) a x).toNat < S80000.size a := fun v318 k1_hw18 => k1_hw18.1
theorem k1_idx36_inb : ∀ (v318 : IVec S16 32) (k1_hw18 : k1_chk18 v318), ∀ a x, ((![v318] : Fin 1 → IVec S16 32) a x).toNat < S80000.size a := fun v318 k1_hw18 => k1_hw18.2
@[reducible] def k1_t12_loop : Scf.Loop 32 :=
  let c0_i32_274 : BitVec 32 := 0#32
  let c64_i32_275 : BitVec 32 := 64#32
  let v308 : BitVec 32 := Scalar.addi c0_i32_274 c64_i32_275
  let c1_i32_276 : BitVec 32 := 1#32
  ⟨c0_i32_274, v308, c1_i32_276⟩

def k1_chk19 (v4 : IVec S16 32) (v307 : IVec S16 32) (v313 : IVec S16 32) : Prop :=
  (∀ a x, ((![v307, v4, v313] : Fin 3 → IVec S16 32) a x).toNat < S5x8x128.size a) ∧
  (∀ a x, ((![v307, v4, v313] : Fin 3 → IVec S16 32) a x).toNat < S5x8x128.size a)
theorem k1_idx37_inb : ∀ (v4 : IVec S16 32) (v307 : IVec S16 32) (v313 : IVec S16 32) (k1_hw19 : k1_chk19 v4 v307 v313), ∀ a x, ((![v307, v4, v313] : Fin 3 → IVec S16 32) a x).toNat < S5x8x128.size a := fun v4 v307 v313 k1_hw19 => k1_hw19.1
theorem k1_idx38_inb : ∀ (v4 : IVec S16 32) (v307 : IVec S16 32) (v313 : IVec S16 32) (k1_hw19 : k1_chk19 v4 v307 v313), ∀ a x, ((![v307, v4, v313] : Fin 3 → IVec S16 32) a x).toNat < S5x8x128.size a := fun v4 v307 v313 k1_hw19 => k1_hw19.2

def k1_chk20 (v318 : IVec S16 32) : Prop :=
  (∀ a x, ((![v318] : Fin 1 → IVec S16 32) a x).toNat < S80000.size a) ∧
  (∀ a x, ((![v318] : Fin 1 → IVec S16 32) a x).toNat < S80000.size a)
theorem k1_idx39_inb : ∀ (v318 : IVec S16 32) (k1_hw20 : k1_chk20 v318), ∀ a x, ((![v318] : Fin 1 → IVec S16 32) a x).toNat < S80000.size a := fun v318 k1_hw20 => k1_hw20.1
theorem k1_idx40_inb : ∀ (v318 : IVec S16 32) (k1_hw20 : k1_chk20 v318), ∀ a x, ((![v318] : Fin 1 → IVec S16 32) a x).toNat < S80000.size a := fun v318 k1_hw20 => k1_hw20.2
def k1_off7 (i : grid1.Coords) : Fin 3 → Nat :=
  let arg0 : BitVec 32 := BitVec.ofNat 32 (i 0).val
  let arg1 : BitVec 32 := BitVec.ofNat 32 (i 1).val
  let c0_i32_56_r0 : BitVec 32 := 0#32
  ![arg0.toNat, arg1.toNat, 0]
abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2x1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S320000x128 : Shape := ⟨2, ![320000, 128]⟩
abbrev S10000x128 : Shape := ⟨2, ![10000, 128]⟩
abbrev S128 : Shape := ⟨1, ![128]⟩
abbrev S1x128 : Shape := ⟨2, ![1, 128]⟩
abbrev S_ : Shape := ⟨0, ![]⟩
abbrev S320000x128x1 : Shape := ⟨3, ![320000, 128, 1]⟩
abbrev S320000x128x2 : Shape := ⟨3, ![320000, 128, 2]⟩

abbrev nBuf : Space → Nat
  | .hbm => 26
  | .vmem => 0
  | .smem => 0
  | _ => 0

abbrev bufTy : (tb : Table) → Fin (tcTables nBuf tb) → BufTy
  | .hbm, ⟨0, _⟩ => ⟨S320000x128, .i32⟩
  | .hbm, ⟨1, _⟩ => ⟨S10000x128, .f32⟩
  | .hbm, ⟨2, _⟩ => ⟨S10000x128, .f32⟩
  | .hbm, ⟨3, _⟩ => ⟨S320000x128, .f32⟩
  | .hbm, ⟨4, _⟩ => ⟨S128, .i32⟩
  | .hbm, ⟨5, _⟩ => ⟨S1x128, .i32⟩
  | .hbm, ⟨6, _⟩ => ⟨S320000x128, .i32⟩
  | .hbm, ⟨7, _⟩ => ⟨S_, .i32⟩
  | .hbm, ⟨8, _⟩ => ⟨S320000x128, .i32⟩
  | .hbm, ⟨9, _⟩ => ⟨S320000x128, .i1⟩
  | .hbm, ⟨10, _⟩ => ⟨S_, .i32⟩
  | .hbm, ⟨11, _⟩ => ⟨S320000x128, .i32⟩
  | .hbm, ⟨12, _⟩ => ⟨S320000x128, .i32⟩
  | .hbm, ⟨13, _⟩ => ⟨S320000x128, .i32⟩
  | .hbm, ⟨14, _⟩ => ⟨S_, .i32⟩
  | .hbm, ⟨15, _⟩ => ⟨S320000x128, .i32⟩
  | .hbm, ⟨16, _⟩ => ⟨S320000x128, .i1⟩
  | .hbm, ⟨17, _⟩ => ⟨S_, .i32⟩
  | .hbm, ⟨18, _⟩ => ⟨S320000x128, .i32⟩
  | .hbm, ⟨19, _⟩ => ⟨S320000x128, .i32⟩
  | .hbm, ⟨20, _⟩ => ⟨S320000x128, .i32⟩
  | .hbm, ⟨21, _⟩ => ⟨S320000x128x1, .i32⟩
  | .hbm, ⟨22, _⟩ => ⟨S320000x128x1, .i32⟩
  | .hbm, ⟨23, _⟩ => ⟨S320000x128x2, .i32⟩
  | .hbm, ⟨24, _⟩ => ⟨S10000x128, .f32⟩
  | .hbm, ⟨25, _⟩ => ⟨S10000x128, .f32⟩
  | _, _ => ⟨S320000x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Proof.Lanes.lean ====
/-
  The arithmetic of one vector subcore's accumulation, with no program in it.

  A subcore of SparseCore `c` with number `s` owns the eight feature columns `8s … 8s+7`. Its accumulator has one
  element per pair (node, column), flat: element `p` is node `p / 8`, column `8s + p % 8`. `acc` says what it holds
  after the first `e` edges of the core's half. One trip of the innermost loop reads sixteen lanes, eight columns of
  two neighbouring edges, and scatters them in two masked additions, one edge each: it takes `acc e` to `acc (e+2)`
  (`acc_two`).
-/
module

public import proofs.«01_k».proof.Defs
public import proofs.«01_k».proof.Proof.Gen.KernelIdeal.Skeleton

@[expose] public section

noncomputable section

namespace Cert.Proof.Edge

open Cert.KernelIdeal Cert.KernelIdeal.Gen
open Idealize.ShloMosaic

variable {F : FTy → Type} [FloatOps F]

/-- Row `r`, column `k` of the transposed edge arrays; the coordinates are taken modulo the extents, so that every
    pair of numbers names an element. -/
def at2 (r k : ℕ) : S128x320000.Idx
  | 0 => (⟨r % 128, Nat.mod_lt _ (by decide)⟩ : Fin 128)
  | 1 => (⟨k % 320000, Nat.mod_lt _ (by decide)⟩ : Fin 320000)

/-- The node number of a flat accumulator element, -/
def nodeOf (p : S80000.Idx) : ℕ := (p 0).val / 8
/-- and its column within the subcore's eight. -/
def colOf (p : S80000.Idx) : ℕ := (p 0).val % 8

/-- One edge's contribution to the accumulator: the edge's weight in the column is added where the edge names the node. -/
def addEdge (I : S128x320000.Idx → BitVec 32) (X : S128x320000.Idx → F .f32) (s k : ℕ) (f : S80000.Idx → F .f32) : S80000.Idx → F .f32 :=
  fun p => if (I (at2 (8 * s + colOf p) k)).toNat = nodeOf p then FloatOps.idxAddf (f p) (X (at2 (8 * s + colOf p) k)) else f p

/-- The accumulator of subcore `s` after the edges `base, base+1, …, base+e-1`, from all zeros. -/
def acc (I : S128x320000.Idx → BitVec 32) (X : S128x320000.Idx → F .f32) (s base : ℕ) : ℕ → S80000.Idx → F .f32
  | 0 => fun _ => Scalar.ofBits .f32 0x00000000#32
  | e + 1 => addEdge I X s (base + e) (acc I X s base e)

/-- The index of lane `k` in a sixteen-lane vector. -/
def ln (k : Fin 16) : S16.Idx := Shape.ofLane k

/-- Every index of a sixteen-lane vector is a lane. -/
theorem ln_surj (x : S16.Idx) : ∃ k : Fin 16, x = ln k :=
  ⟨x 0, funext fun a => by obtain rfl : a = 0 := Subsingleton.elim _ _; rfl⟩

/-! ## A masked, adding scatter whose lanes name different elements -/

/-- A fold in which at most one member of the list acts is that member's action. -/
theorem foldl_one {A : Type} {n : ℕ} (P : Fin n → Prop) [DecidablePred P] (g : A → Fin n → A) (k₀ : Fin n)
    (h : ∀ k, P k → k = k₀) (l : List (Fin n)) (hl : l.Nodup) (a : A) :
    l.foldl (fun y k => if P k then g y k else y) a = if k₀ ∈ l ∧ P k₀ then g a k₀ else a := by
  induction l generalizing a with
  | nil => simp
  | cons k l ih =>
    rw [List.foldl_cons, ih (List.nodup_cons.mp hl).2]
    have hk := (List.nodup_cons.mp hl).1
    by_cases hP : P k
    · obtain rfl := h k hP
      simp [hP, hk]
    · by_cases e : k = k₀
      · subst e; simp [hP]
      · simp [hP, Ne.symm e]

/-- A fold of pointwise updates, read at one point. -/
theorem foldl_at {A : Type} {J : Type} {n : ℕ} (step : (J → A) → Fin n → J → A) (st : A → Fin n → A) (p : J)
    (h : ∀ g k, step g k p = st (g p) k) (l : List (Fin n)) (f : J → A) :
    l.foldl step f p = l.foldl st (f p) := by
  induction l generalizing f with
  | nil => rfl
  | cons k l ih => rw [List.foldl_cons, List.foldl_cons, ih, h]

/-- The adding scatter at one element, when at most lane `k₀` is set and names it. -/
theorem storeIdx_one (f : Vec F S80000 .f32) (ix : IVec S16 32) (v : Vec F S16 .f32) (mask : IVec S16 1)
    (h : ∀ a x, ((![ix] : Fin 1 → IVec S16 32) a x).toNat < S80000.size a) (p : S80000.Idx) (k₀ : Fin 16)
    (h₀ : ∀ k : Fin 16, mask (ln k) = 1 → (ix (ln k)).toNat = (p 0).val → k = k₀) :
    storeIdx (e := .f32) f ![ix] v mask true h p
      = if mask (ln k₀) = 1 ∧ (ix (ln k₀)).toNat = (p 0).val then FloatOps.idxAddf (f p) (v (ln k₀)) else f p := by
  have hs : storeIdx (e := .f32) f ![ix] v mask true h = (List.finRange 16).foldl
      (fun g k => if mask (ln k) = 1 then
        (fun j => if (∀ a, (j a).val = (idxAt ![ix] h (ln k) a).val) then FloatOps.idxAddf (g (idxAt ![ix] h (ln k))) (v (ln k)) else g j)
        else g) f := by
    unfold storeIdx
    refine congrArg (fun st : (S80000.Idx → F .f32) → Fin 16 → (S80000.Idx → F .f32) => List.foldl st f (List.finRange 16)) ?_
    funext g k
    by_cases hm : mask (ln k) = 1
    · refine (if_pos hm).trans ((funext fun j => ?_).trans (if_pos hm).symm)
      dsimp only
      by_cases hj : ∀ a, (j a).val = (idxAt ![ix] h (ln k) a).val
      · exact (if_pos hj).trans (if_pos hj).symm
      · exact (if_neg hj).trans (if_neg hj).symm
    · exact (if_neg hm).trans (if_neg hm).symm
  rw [hs, foldl_at _ (fun y k => if mask (ln k) = 1 ∧ (ix (ln k)).toNat = (p 0).val
    then FloatOps.idxAddf y (v (ln k)) else y) p, foldl_one (fun k : Fin 16 => mask (ln k) = 1 ∧ (ix (ln k)).toNat = (p 0).val)
      (fun y k => FloatOps.idxAddf y (v (ln k))) k₀ (fun k hk => h₀ k hk.1 hk.2) _ (List.nodup_finRange 16)]
  · simp
  · intro g k
    by_cases hm : mask (ln k) = 1
    · rw [if_pos hm]
      have hi : (∀ a, (p a).val = (idxAt ![ix] h (ln k) a).val) ↔ (ix (ln k)).toNat = (p 0).val :=
        ⟨fun H => (H 0).symm, fun H a => by
          obtain rfl : a = 0 := Subsingleton.elim _ _
          exact H.symm⟩
      by_cases hp : (ix (ln k)).toNat = (p 0).val
      · have hpe : idxAt ![ix] h (ln k) = p := by
          funext a
          obtain rfl : a = 0 := Subsingleton.elim _ _
          exact Fin.ext hp
        rw [if_pos (hi.mpr hp), if_pos (And.intro hm hp), hpe]
      · rw [if_neg (fun H => hp (hi.mp H)), if_neg (fun H => hp H.2)]
    · rw [if_neg hm, if_neg (fun H => hm H.1)]

/-! ## The sixteen lanes -/

/-- Lane `k`'s column, edge and masks, as the kernel computes them from the lane number. -/
theorem pay17_lane : ∀ k : Fin 16, (k1_pay17 (ln k)).toNat = k.val % 8 := by decide
theorem pay18_lane : ∀ k : Fin 16, (k1_pay18 (ln k)).toNat = k.val / 8 := by decide
theorem pay19_lane : ∀ k : Fin 16, k1_pay19 (ln k) = 1 ↔ k.val < 8 := by decide
theorem pay20_lane : ∀ k : Fin 16, k1_pay20 (ln k) = 1 ↔ 8 ≤ k.val := by decide

/-- The edge lanes of trip `t`: lane `k` reads edge `2t + k / 8` of its row. -/
theorem pay1_lane (t : Fin k1_t3_loop.trips) (k : Fin 16) : (k1_pay1 k1_pay18 t (ln k)).toNat = k.val / 8 + 2 * t.val := by
  have ht : t.val < 64 := t.isLt
  have h18 := pay18_lane k
  have hk : k.val < 16 := k.isLt
  show (k1_pay18 (ln k) + (2#32 * (0#32 + (Scf.iv 0#32 1#32 t) * 1#32))).toNat = _
  have hiv : (Scf.iv 0#32 1#32 t : BitVec 32) = BitVec.ofNat 32 t.val := by
    simp [Scf.iv]
  rw [hiv, BitVec.toNat_add, h18, BitVec.toNat_mul, BitVec.toNat_add, BitVec.toNat_mul, BitVec.toNat_ofNat]
  simp
  omega

/-- The accumulator element lane `k` names, from the node number it read. -/
theorem pay2_lane (w : Vec F S16 .i32) (k : Fin 16) (hw : (w (ln k)).toNat < 10000) :
    (k1_pay2 (F := F) k1_pay17 w (ln k)).toNat = 8 * (w (ln k)).toNat + k.val % 8 := by
  have h17 := pay17_lane k
  show ((IntOp.shli .vector (w (ln k)) 3#32) + k1_pay17 (ln k)).toNat = _
  have : (IntOp.shli .vector (w (ln k)) 3#32 : BitVec 32).toNat = 8 * (w (ln k)).toNat := by
    show ((w (ln k)) <<< (3#32 : BitVec 32)).toNat = _
    rw [BitVec.shiftLeft_eq', BitVec.toNat_shiftLeft, Nat.shiftLeft_eq]
    simp
    omega
  rw [BitVec.toNat_add, this, h17]
  omega

/-! ## One trip -/

/-- The two masked scatters of one trip. The sixteen lanes hold node numbers `w` and weights `x`, lane `k` for column
    `k % 8` of edge `k / 8`; what they do to an accumulator is two edges' contributions. -/
theorem trip_two (I : S128x320000.Idx → BitVec 32) (X : S128x320000.Idx → F .f32) (s k : ℕ) (f : Vec F S80000 .f32)
    (w : Vec F S16 .i32) (x : Vec F S16 .f32)
    (hI : ∀ i, (I i).toNat < 10000)
    (hw : ∀ l : Fin 16, w (ln l) = I (at2 (8 * s + l.val % 8) (k + l.val / 8)))
    (hx : ∀ l : Fin 16, x (ln l) = X (at2 (8 * s + l.val % 8) (k + l.val / 8)))
    (h h' : ∀ a y, ((![k1_pay2 (F := F) k1_pay17 w] : Fin 1 → IVec S16 32) a y).toNat < S80000.size a) :
    storeIdx (e := .f32) (storeIdx (e := .f32) f ![k1_pay2 (F := F) k1_pay17 w] x k1_pay19 true h)
        ![k1_pay2 (F := F) k1_pay17 w] x k1_pay20 true h'
      = addEdge I X s (k + 1) (addEdge I X s k f) := by
  have hl : ∀ l : Fin 16, (k1_pay2 (F := F) k1_pay17 w (ln l)).toNat = 8 * (I (at2 (8 * s + l.val % 8) (k + l.val / 8))).toNat + l.val % 8 :=
    fun l => by rw [← hw l]; exact pay2_lane w l (by rw [hw l]; exact hI _)
  funext p
  have hc : colOf p < 8 := Nat.mod_lt _ (by decide)
  have hp : (p 0).val = 8 * nodeOf p + colOf p := (Nat.div_add_mod _ 8).symm
  rw [storeIdx_one _ _ _ _ _ p ⟨8 + colOf p, by omega⟩ (fun l hm hl' => Fin.ext (by
      rw [hl] at hl'; have := (pay20_lane l).mp hm; have := l.isLt; dsimp only; omega)),
    storeIdx_one _ _ _ _ _ p ⟨colOf p, by omega⟩ (fun l hm hl' => Fin.ext (by
      rw [hl] at hl'; have := (pay19_lane l).mp hm; dsimp only; omega))]
  have hlo := hl ⟨colOf p, by omega⟩
  have hhi := hl ⟨8 + colOf p, by omega⟩
  have mlo := (pay19_lane ⟨colOf p, by omega⟩).mpr hc
  have mhi := (pay20_lane ⟨8 + colOf p, by omega⟩).mpr (by dsimp only; omega)
  have e1 : (8 + colOf p) % 8 = colOf p := by omega
  have e2 : (8 + colOf p) / 8 = 1 := by omega
  have e3 : colOf p % 8 = colOf p := by omega
  have e4 : colOf p / 8 = 0 := by omega
  rw [hx, hx, hlo, hhi]
  dsimp only
  rw [e1, e2, e3, e4, Nat.add_zero]
  unfold addEdge
  have c1 : ∀ n : ℕ, (8 * n + colOf p = (p 0).val) ↔ n = nodeOf p := fun n => by omega
  simp only [mlo, mhi, c1, true_and, Nat.add_zero]

end Cert.Proof.Edge

end
-- ==== Proof.Setup.lean ====
/-
  The program as the launch theorem sees it, the resource algebra, and what each SparseCore and each vector subcore is
  handed and gives back.
-/
module

public import proofs.«01_k».proof.Defs
public import proofs.«01_k».proof.Proof.Gen.KernelIdeal
public import proofs.«01_k».proof.Proof.Lanes
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Batch
public import Idealize.ShloMosaic.Lib.Memref
public import Idealize.ShloMosaic.Lib.MemrefSat
public import Idealize.ShloMosaic.Lib.ViewIndex
public import Idealize.ShloMosaic.Lib.Tactic

@[expose] public section

noncomputable section

namespace Cert.Proof.Edge

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

/-! ## The program -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are the launch's alone, and no buffer of the program is shared between a SparseCore's tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra

The handshakes' rounds, the two pipelined regions' rounds, and the counters of the subcores' own transfers. -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The regions' rounds, the left factor of the right one. -/
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance
abbrev EC : UEmb Counters (MT nD τ sig (HIx 1) (Elt F) ℕ UU ℕ) := countersEmb

/-- An array of which someone holds some share, at known contents: enough to read it, and duplicable. -/
def RO (c : Thread nD τ) {sp : Space} {sh : Shape} {e : EltTy} (m : Memref sig c.2.kind sp sh e) (X : sh.Idx → Elt F e) : sProp 𝕄 :=
  iprop(∃ q, owns c m q X)

instance RO_storable (c : Thread nD τ) {sp : Space} {sh : Shape} {e : EltTy} (m : Memref sig c.2.kind sp sh e) (X : sh.Idx → Elt F e) :
    BI.Storable (upEmb : UEmb _ 𝕄) (RO c m X) := by
  unfold RO; infer_instance

/-- Reading rights may be given to as many as want them. -/
theorem RO_dup (c : Thread nD τ) {sp : Space} {sh : Shape} {e : EltTy} (m : Memref sig c.2.kind sp sh e) (X : sh.Idx → Elt F e) :
    (RO c m X : sProp 𝕄) ⊢ iprop(RO c m X ∗ RO c m X) := by
  unfold RO
  iintro ⟨%q, H⟩
  ihave H2 := (owns_halves c m q X).1 $$ H
  icases H2 with ⟨H1, H2⟩
  isplitl [H1]
  · iexists q.left; iexact H1
  · iexists q.right; iexact H2

end Cert.Proof.Edge

end
-- ==== Proof.Mem.lean ====
/-
  A vector subcore's staging buffers at the level of what a memref reads: the indexed load and the indexed store as rules
  about contents, and a buffer of five slabs filled by five transfers that share one semaphore.

  `Filling … j` is the state of a buffer of which the first `j` slabs' transfers have been started; `Draining … u` the state
  when all five were started and `u` of the five waits are done. The contents come back at the fifth wait, all five at once:
  before it the waits only count.
-/
module

public import proofs.«01_k».proof.Proof.Setup

@[expose] public section

noncomputable section

namespace Cert.Proof.Edge

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig (HIx 1) (Elt F) ℕ UU ℕ

/-! ## Indexed loads and stores -/

section Access

variable {Λ : Labels} {defs : Defs nD τ sig (Elt F) Λ} (𝒱' : Variants) (c : Thread nD τ) (bd : Option 𝒱'.V)
  {s : Shape} {e : EltTy} {α : Type} {Q : α → sProp (MT nD τ sig (HIx 1) (Elt F) ℕ UU ℕ)}

/-- An access to all of a memref goes through the memref's own elements, -/
theorem set_access_all (m : Memref sig c.2.kind .vmem s e) : (m.access (.whole s)).set = m.view.set := by
  show (m.view.slice (Rect.whole s)).set = _
  rw [View.set_slice, Rect.set_whole]; rfl

/-- and reads what the memref reads. -/
theorem read_access_all (m : Memref sig c.2.kind .vmem s e) (f : m.view.ty.Contents (Elt F)) :
    (m.access (.whole s)).read (Elt F) f = m.view.read (Elt F) f := by
  funext x
  show (m.view.slice (Rect.whole s)).read (Elt F) f x = _
  rw [View.read_apply, View.read_apply]
  show cast _ (f (m.view.emb ((Rect.whole s).emb x))) = _
  rw [Rect.emb_whole_apply]

/-- The indexed load, of a memref held at contents `X`. -/
theorem wp_loadIdx {t : Shape} (m : Memref sig c.2.kind .vmem s e) {idxs : Fin s.rank → IVec t 32}
    {h : ∀ a x, (idxs a x).toNat < s.size a} {hl : m.view.Loads} {k : Vec F t e → Prog (TpuEff nD τ sig (Elt F) Λ c.2) α}
    (X : s.Idx → Elt F e) :
    (owns c m fullShare X : sProp 𝕄)
      ⊢ iprop((owns c m fullShare X -∗ wp frame (wpE defs 𝒱' c bd) Set.univ (k (loadIdx X idxs h)) Q)
        -∗ wp frame (wpE defs 𝒱' c bd) Set.univ (SparseCore.vectorLoadIdx m idxs h hl >>= k) Q) := by
  unfold owns
  iintro ⟨%f, %hf, H⟩ Hk
  have hr := SparseCore.wp_vectorLoadIdx (defs := defs) (base := m) (idxs := idxs) (h := h) (hl := hl) (k := k) (Q := Q) 𝒱' c bd Set.univ
    (f := f) (q := fullShare) (S := m.view.set) (set_access_all c m).le
  rw [read_access_all c m f, hf] at hr
  iapply hr $$ H
  iintro H
  iapply Hk
  iexists f
  isplitr; · ipureintro; exact hf
  iexact H

/-- The indexed store, of a memref held at contents `X`. -/
theorem wp_storeIdx {n : Fin 1 → ℕ} (m : Memref sig c.2.kind .vmem s e) {idxs : Fin s.rank → IVec ⟨1, n⟩ 32} {v : Vec F ⟨1, n⟩ e}
    {mask : IVec ⟨1, n⟩ 1} {add : Bool} {h : ∀ a x, (idxs a x).toNat < s.size a} {hs : (m.access (.whole s)).Stores Finset.univ}
    {k : PUnit → Prog (TpuEff nD τ sig (Elt F) Λ c.2) α} (X : s.Idx → Elt F e) :
    (owns c m fullShare X : sProp 𝕄)
      ⊢ iprop((owns c m fullShare (storeIdx X idxs v mask add h) -∗ wp frame (wpE defs 𝒱' c bd) Set.univ (k ⟨⟩) Q)
        -∗ wp frame (wpE defs 𝒱' c bd) Set.univ (SparseCore.vectorStoreIdx m idxs v mask add h hs >>= k) Q) := by
  unfold owns
  iintro ⟨%f, %hf, H⟩ Hk
  have hr := SparseCore.wp_vectorStoreIdx (defs := defs) (base := m) (idxs := idxs) (h := h) (hs := hs) (v := v) (mask := mask) (add := add)
    (k := k) (Q := Q) 𝒱' c bd Set.univ (f := f)
  rw [read_access_all c m f, hf] at hr
  rw [← set_access_all c m]
  iapply hr $$ H
  iintro H
  iapply Hk
  iexists (m.access (.whole s)).write (Elt F) f (storeIdx X idxs v mask add h) Finset.univ
  isplitr
  · ipureintro
    rw [← read_access_all c m]
    funext x
    exact View.read_write_of_mem _ _ (Finset.mem_univ x)
  iexact H

/-- A load's value unread: the memref is handed back. -/
theorem wp_load_any (m : Memref sig c.2.kind .vmem s e) {r : Rect s} {hl : m.view.LoadsAt r.toLoadRect}
    {k : (r.shape.Idx → Elt F e) → Prog (TpuEff nD τ sig (Elt F) Λ c.2) α} (X : s.Idx → Elt F e) :
    (owns c m fullShare X : sProp 𝕄)
      ⊢ iprop((∀ v, owns c m fullShare X -∗ wp frame (wpE defs 𝒱' c bd) Set.univ (k v) Q)
        -∗ wp frame (wpE defs 𝒱' c bd) Set.univ (.op (.load m r.toLoadRect hl) k) Q) := by
  unfold owns
  iintro ⟨%f, %hf, H⟩ Hk
  have hr := wp_load_rect (defs := defs) (Γ := .empty) (Q := Q) 𝒱' c bd Set.univ (m := m) (r := r) (hl := hl) (k := k) (f := f) (q := fullShare)
    (S := m.view.set) (m.view.set_slice_subset r)
  iapply hr $$ H
  iintro H
  iapply Hk
  iexists f
  isplitr; · ipureintro; exact hf
  iexact H

/-- A store through a rectangle of a memref held at `X` leaves `X` with the rectangle's part replaced. -/
theorem wp_store_rect (m : Memref sig c.2.kind .vmem s e) {r : Rect s} {w : r.shape.Idx → Elt F e}
    {hx : (m.access r).Stores Finset.univ} {hm : Finset.univ = Finset.univ ∨ ∀ a, r.stride a = 1}
    {k : PUnit → Prog (TpuEff nD τ sig (Elt F) Λ c.2) α} (X : s.Idx → Elt F e) :
    (owns c m fullShare X : sProp 𝕄)
      ⊢ iprop((owns c m fullShare (r.overlay X w) -∗ wp frame (wpE defs 𝒱' c bd) Set.univ (k ⟨⟩) Q)
        -∗ wp frame (wpE defs 𝒱' c bd) Set.univ (.op (.store m r w Finset.univ hx hm) k) Q) := by
  unfold owns
  iintro ⟨%f, %hf, H⟩ Hk
  have hr := wp_store (defs := defs) (Γ := .empty) (Q := Q) 𝒱' c bd Set.univ (m := m) (r := r) (w := w) (Mk := Finset.univ) (hx := hx) (hm := hm) (k := k) (f := f)
    (S := m.view.set) (m.setOn_access_subset r Finset.univ)
  iapply hr $$ H
  iintro H
  iapply Hk
  iexists (m.access r).write (Elt F) f w Finset.univ
  isplitr
  · ipureintro
    funext y
    by_cases hy : y ∈ r.set
    · obtain ⟨x, rfl⟩ := r.exists_idx_of_mem hy
      exact (View.read_writes_cons_emb m.view f r w [] x).trans (Rect.overlay_emb r X w x).symm
    · rw [Rect.overlay_of_not_mem _ _ _ hy, ← hf]
      exact View.read_writes_apply_of_forall_not_mem m.view f y [⟨r, w⟩] (by simpa using hy)
  iexact H

end Access

/-! ## The five slabs -/

section Slabs

variable (c : Thread nD τ) {e : EltTy} (B : Memref sig c.2.kind .vmem S5x8x128 e) (sm : DmaSem sig) (X : S5x8x128.Idx → Elt F e)

theorem slab_inb (g : Fin 5) : ∀ a, (![g.val, 0, 0] : Fin 3 → ℕ) a + S1x8x128.size a ≤ S5x8x128.size a := by
  revert g; decide

/-- Slab `g`: the buffer's elements whose first coordinate is `g`. -/
abbrev slabR (g : Fin 5) : Rect S5x8x128 := Rect.unit (s := S5x8x128) ![g.val, 0, 0] S1x8x128.size (slab_inb g)

/-- The slab's elements in the buffer, by coordinates. -/
theorem slab_emb (g : Fin 5) (x : (slabR g).shape.Idx) : ((slabR g).emb x 0).val = g.val ∧ ((slabR g).emb x 1).val = (x 1).val
    ∧ ((slabR g).emb x 2).val = (x 2).val := by
  have h0 : (x 0).val = 0 := by have : (x 0).val < 1 := (x 0).isLt; omega
  refine ⟨?_, ?_, ?_⟩
  · simp [Rect.emb, Rect.unit, h0]
  · simp [Rect.emb, Rect.unit]
  · simp [Rect.emb, Rect.unit]

theorem slab_mem (g : Fin 5) (y : S5x8x128.Idx) : y ∈ (slabR g).set ↔ (y 0).val = g.val := by
  constructor
  · intro h
    obtain ⟨x, rfl⟩ := (slabR g).exists_idx_of_mem h
    exact (slab_emb g x).1
  · intro h
    refine Rect.mem_set_unit.mpr fun a => ?_
    have h1 := (y 1).isLt
    have h2 := (y 2).isLt
    fin_cases a
    · exact ⟨h.ge, by show (y 0).val < g.val + 1; omega⟩
    · exact ⟨Nat.zero_le _, by simpa using h1⟩
    · exact ⟨Nat.zero_le _, by simpa using h2⟩

theorem slab_disj (g g' : Fin 5) (h : g ≠ g') : Disjoint (slabR g).set (slabR g').set :=
  Finset.disjoint_left.mpr fun y hy hy' => h (Fin.ext (((slab_mem g y).mp hy).symm.trans ((slab_mem g' y).mp hy')))

theorem slab_cover : (Finset.univ : Finset (Fin 5)).biUnion (fun g => (slabR g).set) = Finset.univ :=
  Finset.eq_univ_iff_forall.mpr fun y => Finset.mem_biUnion.mpr ⟨(y 0 : Fin 5), Finset.mem_univ _, (slab_mem _ y).mpr rfl⟩

/-- Slab `g` at its part of `X`, -/
abbrev slabAt (g : Fin 5) : sProp 𝕄 := owns c (B.slice (slabR g) (fun _ => rfl)) fullShare (fun j => X ((slabR g).emb j))
/-- or at anything. -/
abbrev slabAny (g : Fin 5) : sProp 𝕄 := iprop(∃ Y, owns c (B.slice (slabR g) (fun _ => rfl)) fullShare Y)

/-- What one slab's transfer credits. -/
abbrev slabN (_c : Thread nD τ) (B : Memref sig _c.2.kind .vmem S5x8x128 e) : ℕ := ((B.slice (slabR 0) (fun _ => rfl)).squeeze S8x128 squeezes_S1x8x128_S8x128).view.dmaCredit

theorem slabN_pos : 0 < slabN c B := View.dmaCredit_pos _ (by decide)

/-- The buffer being filled with `X`: `j` transfers started, none waited for. -/
def Filling (j : ℕ) : sProp 𝕄 :=
  iprop(Batch EC c (.dma sm) none (slabN c B) (slabAt (F := F) c B X) j 0 ∗ bigSep (pending j) (slabAny (F := F) c B))

/-- All five transfers started, `u` waits done. -/
def Draining (u : ℕ) : sProp 𝕄 :=
  if u < 5 then Batch EC c (.dma sm) none (slabN c B) (slabAt (F := F) c B X) 5 (u * slabN c B)
  else iprop(owns c B fullShare X ∗ semVal (c, .dma sm) 0)

theorem Draining_lt {u : ℕ} (h : u < 5) :
    (Draining c B sm X u : sProp 𝕄) = Batch EC c (.dma sm) none (slabN c B) (slabAt (F := F) c B X) 5 (u * slabN c B) := if_pos h
theorem Draining_five : (Draining c B sm X 5 : sProp 𝕄) = iprop(owns c B fullShare X ∗ semVal (c, .dma sm) 0) := if_neg (by decide)

/-- A buffer with nothing in flight may be filled with anything. -/
theorem filling_start : iprop((∃ Y, owns c B fullShare Y) ∗ semVal (c, .dma sm) 0) ⊢ (|={Set.univ}=> Filling c B sm X 0 : sProp 𝕄) := by
  iintro ⟨⟨%Y, H⟩, Hs⟩
  imod (batch_alloc' EC (c := c) (sm := .dma sm) (none : HIx 1) (slabN c B) (slabAt (F := F) c B X)) $$ Hs with Hb
  imodintro
  unfold Filling
  isplitl [Hb]; · iexact Hb
  rw [← bigSep_pending_zero]
  iapply (show (owns c B fullShare Y : sProp 𝕄) ⊢ bigSep Finset.univ (slabAny (F := F) c B) from
    (owns_rects c B fullShare slabR (fun _ _ => rfl) slab_disj slab_cover Y).trans
      (BI.bigSep_mono fun g _ => show slabAt (F := F) c B Y g ⊢ slabAny (F := F) c B g by
        iintro H; iexists _; iexact H))
  iexact H

/-- The fifth transfer started, the waits may begin. -/
theorem filling_done : (Filling c B sm X 5 : sProp 𝕄) ⊢ Draining c B sm X 0 := by
  rw [Draining_lt c B sm X (by decide), Nat.zero_mul]
  unfold Filling
  iintro ⟨H, -⟩
  iexact H

/-- The five slabs together are the buffer. -/
theorem slabs_join : bigSep Finset.univ (slabAt (F := F) c B X) ⊢ (owns c B fullShare X : sProp 𝕄) :=
  owns_of_rects c B fullShare slabR (fun _ _ => rfl) slab_disj slab_cover X

variable {Λ : Labels} {defs : Defs nD τ sig (Elt F) Λ} (𝒱' : Variants) (bd : Option 𝒱'.V) {α : Type} {Q : α → sProp (MT nD τ sig (HIx 1) (Elt F) ℕ UU ℕ)}
  (A : Memref sig c.2.kind .hbm S128x320000 e) (Y : S128x320000.Idx → Elt F e)

/-- What a slab's transfer leaves in the slab is its part of `X`. -/
theorem slab_lands (g : Fin 5) {off : Fin 2 → ℕ} {hin : ∀ a, off a + S8x128.size a ≤ S128x320000.size a}
    (hX : ∀ x : S5x8x128.Idx, (x 0).val = g.val → X x = Y (at2 (off 0 + (x 1).val) (off 1 + (x 2).val)))
    {fa : A.view.ty.Contents (Elt F)} (hfa : A.view.read (Elt F) fa = Y) {fd : B.view.ty.Contents (Elt F)} {q : PosShare TreeShare} :
    iprop((((B.slice (slabR g) (fun _ => rfl)).squeeze S8x128 squeezes_S1x8x128_S8x128).view.loc c ↦[(B.slice (slabR g) (fun _ => rfl)).view.set]{fullShare}
          (((B.slice (slabR g) (fun _ => rfl)).squeeze S8x128 squeezes_S1x8x128_S8x128).view.write (Elt F) fd
            ((ReadAs.same : ReadAs (Elt F) S8x128 e S8x128 e).apply ((A.slice (Rect.unit (s := S128x320000) off S8x128.size hin) (fun _ => rfl)).view.read (Elt F) fa)) Finset.univ))
        ∗ ((A.slice (Rect.unit (s := S128x320000) off S8x128.size hin) (fun _ => rfl)).view.loc c ↦[(A.slice (Rect.unit (s := S128x320000) off S8x128.size hin) (fun _ => rfl)).view.set]{q} fa))
      ⊢ (slabAt (F := F) c B X g : sProp 𝕄) := by
  iintro ⟨H, -⟩
  unfold slabAt owns
  iexists _
  isplitr [H]
  rotate_left
  · iexact H
  ipureintro
  funext j
  obtain ⟨x, rfl⟩ := (Shape.reshapeEquiv squeezes_S1x8x128_S8x128.numel_eq).surjective j
  refine (View.read_write_reshape (B.slice (slabR g) (fun _ => rfl)).view squeezes_S1x8x128_S8x128.numel_eq fd _ x).trans ?_
  have hx := Shape.reshapeEquiv_cons_one (n := 2) (d := ![8, 128]) squeezes_S1x8x128_S8x128.numel_eq x
  have hsl := slab_emb g (Shape.reshapeEquiv squeezes_S1x8x128_S8x128.numel_eq x)
  rw [hX _ hsl.1, hsl.2.1, hsl.2.2, ← hfa]
  show A.view.read (Elt F) fa ((Rect.unit (s := S128x320000) off S8x128.size hin).emb x) = _
  congr 1
  funext a
  have h0 := hin 0
  have h1 := hin 1
  have x0 := (x 0).isLt
  have x1 := (x 1).isLt
  apply Fin.ext
  rw [show Shape.reshapeEquiv squeezes_S1x8x128_S8x128.numel_eq x = _ from hx]
  fin_cases a
  · show off 0 + 1 * (x 0).val = (off 0 + (x 0).val) % 128
    have : off 0 + 8 ≤ 128 := h0
    have : (x 0).val < 8 := x0
    rw [Nat.mod_eq_of_lt (by omega)]; omega
  · show off 1 + 1 * (x 1).val = (off 1 + (x 1).val) % 320000
    have : off 1 + 128 ≤ 320000 := h1
    have : (x 1).val < 128 := x1
    rw [Nat.mod_eq_of_lt (by omega)]; omega

/-- The next slab's transfer: from the array `A`, read at contents `Y`, of which `X` is the chunk that the slab's part is in. -/
theorem wp_fill (g : Fin 5) {off : Fin 2 → ℕ} {hin : ∀ a, off a + S8x128.size a ≤ S128x320000.size a}
    {off' : Fin 3 → ℕ} {hin' : ∀ a, off' a + S1x8x128.size a ≤ S5x8x128.size a} (hoff' : off' = ![g.val, 0, 0])
    {hs : (A.slice (Rect.unit (s := S128x320000) off S8x128.size hin) (fun _ => rfl)).view.WordExact}
    {hd : ((B.slice (Rect.unit (s := S5x8x128) off' S1x8x128.size hin') (fun _ => rfl)).squeeze S8x128 squeezes_S1x8x128_S8x128).view.WordExact}
    {ht : DmaTarget.Typed (nD := nD) .hbm (.dma sm) (.here ((B.slice (Rect.unit (s := S5x8x128) off' S1x8x128.size hin') (fun _ => rfl)).squeeze S8x128 squeezes_S1x8x128_S8x128))}
    {k : PUnit → Prog (TpuEff nD τ sig (Elt F) Λ c.2) α}
    (hX : ∀ x : S5x8x128.Idx, (x 0).val = g.val → X x = Y (at2 (off 0 + (x 1).val) (off 1 + (x 2).val))) :
    iprop(Filling (F := F) c B sm X g.val ∗ RO c A Y)
      ⊢ iprop((iprop(Filling (F := F) c B sm X (g.val + 1) ∗ RO c A Y) -∗ wp frame (wpE defs 𝒱' c bd) Set.univ (k ⟨⟩) Q)
        -∗ wp frame (wpE defs 𝒱' c bd) Set.univ
          (.op (.enqueueDma (A.slice (Rect.unit (s := S128x320000) off S8x128.size hin) (fun _ => rfl))
            (.here ((B.slice (Rect.unit (s := S5x8x128) off' S1x8x128.size hin') (fun _ => rfl)).squeeze S8x128 squeezes_S1x8x128_S8x128))
            (.dma sm) hs hd ht) k) Q) := by
  subst hoff'
  iintro ⟨HF, HA⟩ Hk
  ihave HA2 := (RO_dup c A Y) $$ HA
  icases HA2 with ⟨HA, HA'⟩
  unfold RO
  icases HA' with ⟨%q, HA'⟩
  unfold owns
  icases HA' with ⟨%fa, %hfa, HA'⟩
  ihave HS := (pointsTo_split_subset (A.view.set_slice_subset (Rect.unit (s := S128x320000) off S8x128.size hin))).1 $$ HA'
  icases HS with ⟨HS, -⟩
  unfold Filling
  icases HF with ⟨Hb, Hp⟩
  have hp : (bigSep (pending g.val) (slabAny (F := F) c B) : sProp 𝕄) ⊢ iprop(slabAny (F := F) c B g ∗ bigSep (pending (g.val + 1)) (slabAny (F := F) c B)) := by
    rw [bigSep_pending_step _ g.val g.isLt]
  ihave Hp := hp $$ Hp
  icases Hp with ⟨⟨%Z, Hd⟩, Hp⟩
  ihave Hd := (show (owns c (B.slice (slabR g) (fun _ => rfl)) fullShare Z : sProp 𝕄) ⊢ iprop(∃ f, ⌜(B.slice (slabR g) (fun _ => rfl)).view.read (Elt F) f = Z⌝
    ∗ ((B.slice (slabR g) (fun _ => rfl)).view.loc c ↦[(B.slice (slabR g) (fun _ => rfl)).view.set]{fullShare} f)) from .rfl) $$ Hd
  icases Hd with ⟨%fd, %hfd, Hd⟩
  have hr := wp_dmaBatch (defs := defs) (Q := Q) EC 𝒱' c bd (n := 5) (D := slabAt (F := F) c B X) (j := g.val) (u := 0)
      (src := A.slice (Rect.unit (s := S128x320000) off S8x128.size hin) (fun _ => rfl))
      (dst := (B.slice (slabR g) (fun _ => rfl)).squeeze S8x128 squeezes_S1x8x128_S8x128) (via := .same)
      (sm := .dma sm) (hsrc := hs) (hdst := hd) (hsem := ht) (k := k)
      (none : HIx 1) (slabN c B) rfl (View.set_reshape _ _).le g.isLt (Nat.zero_le _) (fs := fa) (fd := fd) (q := q) (slab_lands c B X A Y g hX hfa)
  iapply hr $$ [HS Hd Hb]
  · isplitl [HS]; · iexact HS
    isplitl [Hd]; · iexact Hd
    iexact Hb
  · iintro Hb
    iapply Hk
    isplitl [Hb Hp]
    · isplitl [Hb]; · iexact Hb
      iexact Hp
    iexact HA

/-- One wait of the five. -/
theorem wp_drain {u : ℕ} (hu : u < 5) {s' : Shape} {sp' : Space} {e' : EltTy} {srcw : Memref sig c.2.kind sp' s' e'} {off' : Fin 3 → ℕ} {hin' : ∀ a, off' a + S1x8x128.size a ≤ S5x8x128.size a}
    {hs : srcw.view.WordExact}
    {hd : ((B.slice (Rect.unit (s := S5x8x128) off' S1x8x128.size hin') (fun _ => rfl)).squeeze S8x128 squeezes_S1x8x128_S8x128).view.WordExact}
    {k : PUnit → Prog (TpuEff nD τ sig (Elt F) Λ c.2) α} {O : CellTallies nD τ sig (HIx 1)} {W : Waits sig (HIx 1)} :
    iprop(Draining (F := F) c B sm X u ∗ owes c O W ∗ MayWait c (.dma sm) none O)
      ⊢ iprop((iprop(Draining (F := F) c B sm X (u + 1) ∗ owes c O (insert (SemLoc.dma sm, none) W)) -∗ wp frame (wpE defs 𝒱' c bd) Set.univ (k ⟨⟩) Q)
        -∗ wp frame (wpE defs 𝒱' c bd) Set.univ
          (.op (.waitDma2 sm srcw ((B.slice (Rect.unit (s := S5x8x128) off' S1x8x128.size hin') (fun _ => rfl)).squeeze S8x128 squeezes_S1x8x128_S8x128) hs hd) k) Q) := by
  rw [Draining_lt c B sm X hu]
  rcases Nat.lt_or_ge (u + 1) 5 with h | h
  · rw [Draining_lt c B sm X h, Nat.add_mul, Nat.one_mul]
    have hlt : u * slabN c B + slabN c B < slabN c B * 5 := by
      have := Nat.mul_lt_mul_of_pos_right h (slabN_pos c B)
      rw [Nat.add_mul, Nat.one_mul] at this
      omega
    exact wp_waitBatchO (defs := defs) (Q := Q) EC 𝒱' c bd (sem := sm) (srcw := srcw)
      (dstw := (B.slice (Rect.unit (s := S5x8x128) off' S1x8x128.size hin') (fun _ => rfl)).squeeze S8x128 squeezes_S1x8x128_S8x128)
      (hsrc := hs) (hdst := hd) (k := k) (none : HIx 1) (N := slabN c B)
      rfl (D := slabAt (F := F) c B X) (u := u * slabN c B) hlt (O := O) (W := W)
  · obtain rfl : u = 4 := by omega
    rw [Draining_five]
    iintro H Hk
    have hr := wp_waitBatchLastO (defs := defs) (Q := Q) EC 𝒱' c bd (sem := sm) (srcw := srcw) (hsrc := hs) (hdst := hd) (k := k) (none : HIx 1) (N := slabN c B)
      rfl (slabN_pos c B) (D := slabAt (F := F) c B X) (u := 4 * slabN c B) (by ring) (O := O) (W := W)
    iapply hr $$ H
    iintro ⟨HD, Hs, Ho⟩
    iapply Hk
    isplitl [HD Hs]
    · isplitl [HD]
      · iapply (slabs_join c B X); iexact HD
      · iexact Hs
    iexact Ho

end Slabs

end Cert.Proof.Edge

end
-- ==== Proof.TcBodies.lean ====
/-
  The two TensorCore bodies — the transposition of an edge block, and the combination of a block of rows with the two
  partial sums — as rules about the contents of their staging buffers.
-/
module

public import proofs.«01_k».proof.Proof.Mem
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Edge

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

section Load

variable {Λ : Labels} {defs : Defs nD τ sig (Elt F) Λ} (𝒱' : Variants) (c : Thread nD τ) (bd : Option 𝒱'.V)
  {s : Shape} {e : EltTy} {α : Type} {Q : α → sProp (MT nD τ sig (HIx 1) (Elt F) ℕ UU ℕ)}

/-- A load through a rectangle of a memref held at `X` reads `X` there. -/
theorem wp_load_at (m : Memref sig c.2.kind .vmem s e) {r : Rect s} {hl : m.view.LoadsAt r.toLoadRect}
    {k : (r.shape.Idx → Elt F e) → Prog (TpuEff nD τ sig (Elt F) Λ c.2) α} (X : s.Idx → Elt F e) :
    (owns c m fullShare X : sProp 𝕄)
      ⊢ iprop((owns c m fullShare X -∗ wp frame (wpE defs 𝒱' c bd) Set.univ (k (fun x => X (r.emb x))) Q)
        -∗ wp frame (wpE defs 𝒱' c bd) Set.univ (.op (.load m r.toLoadRect hl) k) Q) := by
  unfold owns
  iintro ⟨%f, %hf, H⟩ Hk
  have hr := wp_load_rect (defs := defs) (Γ := .empty) (Q := Q) 𝒱' c bd Set.univ (m := m) (r := r) (hl := hl) (k := k) (f := f) (q := fullShare)
    (S := m.view.set) (m.view.set_slice_subset r)
  rw [show (m.access r).read (Elt F) f = fun x => X (r.emb x) from by
    funext x
    rw [← hf]
    show (m.view.slice r).read (Elt F) f x = _
    rw [View.read_apply, View.read_apply]
    rfl] at hr
  iapply hr $$ H
  iintro H
  iapply Hk
  iexists f
  isplitr; · ipureintro; exact hf
  iexact H

/-- The rectangle of a whole shape names every index by itself, -/
theorem whole_emb {s : Shape} {off : Fin s.rank → ℕ} (hoff : ∀ a, off a = 0) (inb : ∀ a, off a + s.size a ≤ s.size a) (x : s.Idx) :
    (Rect.unit (s := s) off s.size inb).emb x = x := by
  funext a
  apply Fin.ext
  show off a + 1 * (x a).val = _
  rw [hoff a]; omega

/-- so reading through it reads all, -/
theorem whole_read {s : Shape} {off : Fin s.rank → ℕ} (hoff : ∀ a, off a = 0) (inb : ∀ a, off a + s.size a ≤ s.size a)
    (X : s.Idx → Elt F e) : (fun x => X ((Rect.unit (s := s) off s.size inb).emb x)) = X :=
  funext fun x => congrArg X (whole_emb hoff inb x)

/-- and a store through it leaves what is stored. -/
theorem whole_overlay {s : Shape} {off : Fin s.rank → ℕ} (hoff : ∀ a, off a = 0) (inb : ∀ a, off a + s.size a ≤ s.size a)
    (X w : s.Idx → Elt F e) : (Rect.unit (s := s) off s.size inb).overlay X w = w := by
  funext x
  have h := Rect.overlay_emb (Rect.unit (s := s) off s.size inb) X w x
  exact (congrArg ((Rect.unit (s := s) off s.size inb).overlay X w) (whole_emb hoff inb x)).symm.trans h

end Load

theorem zero2 : ∀ a : Fin 2, (![0, 0] : Fin 2 → ℕ) a = 0 := by decide

/-- The transposition of an edge block: both input blocks are left as they were, both output blocks hold their transposes. -/
theorem transpose_wp (d : Dev nD) (i : grid0.Coords) (M1 : Memref sig .tc .vmem S3200x128 .i32) (h1 : M1.IsWhole)
    (M2 : Memref sig .tc .vmem S3200x128 .f32) (h2 : M2.IsWhole) (M3 : Memref sig .tc .vmem S128x3200 .i32) (h3 : M3.IsWhole)
    (M4 : Memref sig .tc .vmem S128x3200 .f32) (h4 : M4.IsWhole) (X1 : S3200x128.Idx → Elt F .i32) (X2 : S3200x128.Idx → Elt F .f32)
    (X3 : S128x3200.Idx → Elt F .i32) (X4 : S128x3200.Idx → Elt F .f32) (Q : PUnit → sProp (MT nD τ sig (HIx 1) (Elt F) ℕ UU ℕ)) :
    iprop(owns (d : Thread nD τ) M1 fullShare X1 ∗ owns (d : Thread nD τ) M2 fullShare X2 ∗ owns (d : Thread nD τ) M3 fullShare X3
        ∗ owns (d : Thread nD τ) M4 fullShare X4
        ∗ (iprop(owns (d : Thread nD τ) M1 fullShare X1 ∗ owns (d : Thread nD τ) M2 fullShare X2
            ∗ owns (d : Thread nD τ) M3 fullShare (k0_pay1 (F := F) X1) ∗ owns (d : Thread nD τ) M4 fullShare (k0_pay2 (F := F) X2)) -∗ Q ⟨⟩))
      ⊢ wp frame (wpE (defs₀ (F := F)) 𝒱₀ (d : Thread nD τ) none) Set.univ (cc0__transpose_body i M1 h1 M2 h2 M3 h3 M4 h4) Q := by
  rw [cc0__transpose_body_eq_skeleton]
  unfold cc0__transpose_body_skel
  simp only [Prog.lift, Prog.bind_op, Prog.bind_ret, Prog.pure_eq_ret]
  iintro ⟨H1, H2, H3, H4, Hk⟩
  iapply (wp_load_at 𝒱₀ (d : Thread nD τ) none M1 X1) $$ H1
  iintro H1
  iapply (wp_load_any 𝒱₀ (d : Thread nD τ) none M3 X3) $$ H3
  iintro %v H3
  iapply (wp_store_rect 𝒱₀ (d : Thread nD τ) none M3 X3) $$ H3
  iintro H3
  iapply (wp_load_at 𝒱₀ (d : Thread nD τ) none M2 X2) $$ H2
  iintro H2
  iapply (wp_load_any 𝒱₀ (d : Thread nD τ) none M4 X4) $$ H4
  iintro %v' H4
  iapply (wp_store_rect 𝒱₀ (d : Thread nD τ) none M4 X4) $$ H4
  iintro H4
  rw [whole_overlay zero2, whole_overlay zero2]
  rw [show (fun x => X1 ((Rect.unit (s := S3200x128) ![0, 0] S3200x128.size inb_S3200x128_S3200x128_0_0).emb x)) = X1 from whole_read (s := S3200x128) zero2 _ X1]
  rw [show (fun x => X2 ((Rect.unit (s := S3200x128) ![0, 0] S3200x128.size inb_S3200x128_S3200x128_0_0).emb x)) = X2 from whole_read (s := S3200x128) zero2 _ X2]
  rw [wp_ret]
  imodintro
  iapply Hk
  isplitl [H1]; · iexact H1
  isplitl [H2]; · iexact H2
  isplitl [H3]; · iexact H3
  iexact H4

/-- The combination of a block of rows: with `P` the block of the two partial sums, the numerators `N` are divided by the
    sum of the base `B` and the partial sums. -/
theorem combine_wp (d : Dev nD) (i : grid2.Coords) (M1 : Memref sig .tc .vmem S1000x128 .f32) (h1 : M1.IsWhole)
    (M2 : Memref sig .tc .vmem S1000x128 .f32) (h2 : M2.IsWhole) (M3 : Memref sig .tc .vmem S2x1000x128 .f32) (h3 : M3.IsWhole)
    (M4 : Memref sig .tc .vmem S1000x128 .f32) (h4 : M4.IsWhole) (N B : S1000x128.Idx → Elt F .f32)
    (P : S2x1000x128.Idx → Elt F .f32) (X4 : S1000x128.Idx → Elt F .f32) (Q : PUnit → sProp (MT nD τ sig (HIx 1) (Elt F) ℕ UU ℕ)) :
    iprop(owns (d : Thread nD τ) M1 fullShare N ∗ owns (d : Thread nD τ) M2 fullShare B ∗ owns (d : Thread nD τ) M3 fullShare P
        ∗ owns (d : Thread nD τ) M4 fullShare X4
        ∗ (iprop(owns (d : Thread nD τ) M1 fullShare N ∗ owns (d : Thread nD τ) M2 fullShare B
            ∗ owns (d : Thread nD τ) M3 fullShare P
            ∗ owns (d : Thread nD τ) M4 fullShare (k2_pay1 (F := F) B
                (fun x => P ((Rect.unit (s := S2x1000x128) ![0, 0, 0] S1x1000x128.size inb_S2x1000x128_S1x1000x128_0_0_0).emb x))
                (fun x => P ((Rect.unit (s := S2x1000x128) ![1, 0, 0] S1x1000x128.size inb_S2x1000x128_S1x1000x128_1_0_0).emb x)) N)) -∗ Q ⟨⟩))
      ⊢ wp frame (wpE (defs₀ (F := F)) 𝒱₀ (d : Thread nD τ) none) Set.univ (cc2__combine_body i M1 h1 M2 h2 M3 h3 M4 h4) Q := by
  rw [cc2__combine_body_eq_skeleton]
  unfold cc2__combine_body_skel
  simp only [Prog.lift, Prog.bind_op, Prog.bind_ret, Prog.pure_eq_ret]
  iintro ⟨H1, H2, H3, H4, Hk⟩
  iapply (wp_load_at 𝒱₀ (d : Thread nD τ) none M2 B) $$ H2
  iintro H2
  iapply (wp_load_at 𝒱₀ (d : Thread nD τ) none M3 P) $$ H3
  iintro H3
  iapply (wp_load_at 𝒱₀ (d : Thread nD τ) none M3 P) $$ H3
  iintro H3
  iapply (wp_load_at 𝒱₀ (d : Thread nD τ) none M1 N) $$ H1
  iintro H1
  iapply (wp_load_any 𝒱₀ (d : Thread nD τ) none M4 X4) $$ H4
  iintro %v' H4
  iapply (wp_store_rect 𝒱₀ (d : Thread nD τ) none M4 X4) $$ H4
  iintro H4
  rw [whole_overlay zero2]
  rw [show (fun x => B ((Rect.unit (s := S1000x128) ![0, 0] S1000x128.size inb_S1000x128_S1000x128_0_0).emb x)) = B from whole_read (s := S1000x128) zero2 _ B]
  rw [show (fun x => N ((Rect.unit (s := S1000x128) ![0, 0] S1000x128.size inb_S1000x128_S1000x128_0_0).emb x)) = N from whole_read (s := S1000x128) zero2 _ N]
  rw [wp_ret]
  imodintro
  iapply Hk
  isplitl [H1]; · iexact H1
  isplitl [H2]; · iexact H2
  isplitl [H3]; · iexact H3
  iexact H4

end Cert.Proof.Edge

end
-- ==== Proof.Region0.lean ====
/-
  The first TensorCore region: the two edge arrays transposed, block by block, into the two arrays the SparseCores read.
-/
module

public import proofs.«01_k».proof.Proof.TcBodies
public import Idealize.ShloMosaic.Lib.Pipeline.Value

@[expose] public section

noncomputable section

namespace Cert.Proof.Edge

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## What the TensorCore owes -/

/-- The (semaphore, call) pairs a TensorCore's waits may have recorded once it is past `n` calls. -/
def seen (d : Dev nD) (n : ℕ) : Set (SemLoc sig × HIx 1) := {p | (K (F := F)).lev (T d, p.1) p.2 ≤ 8 * n}

/-- What it then owes, its waits recorded within those pairs. -/
abbrev tcOwes (d : Dev nD) (n : ℕ) : sProp 𝕄 :=
  iprop(∃ W, ⌜(K (F := F)).WBelow (T d) W (8 * n)⌝ ∗ owes (T d) ((K (F := F)).Otc d n) W)

/-- A region that runs between two calls does not run (the family below is over both). -/
def idleDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

/-! ## The region's data -/

/-- The index of the untransposed array that lands at `y`. -/
def flip (y : S128x320000.Idx) : S320000x128.Idx := fun a => match a with
  | ⟨0, _⟩ => (y 1 : Fin 320000)
  | ⟨1, _⟩ => (y 0 : Fin 128)

/-- An edge array transposed. -/
def flipped {α : Type} (A : S320000x128.Idx → α) : S128x320000.Idx → α := fun y => A (flip y)

variable (A0 : Dev nD → S320000x128.Idx → BitVec 32) (A3 : Dev nD → S320000x128.Idx → F .f32)
  (J0 : Dev nD → S128x320000.Idx → BitVec 32) (J1 : Dev nD → S128x320000.Idx → F .f32)

/-- The blocks of the two inputs at point `t`. -/
abbrev blk0 (c : Dev nD) (t : Fin cfg0.N) : S3200x128.Idx → Elt F .i32 :=
  ((cfg0.win 0).blk t).view.read (Elt F) (show Buf (Elt F) ((c : Thread nD τ).loc main_arg0) from A0 c)
abbrev blk1 (c : Dev nD) (t : Fin cfg0.N) : S3200x128.Idx → Elt F .f32 :=
  ((cfg0.win 1).blk t).view.read (Elt F) (show Buf (Elt F) ((c : Thread nD τ).loc main_arg3) from A3 c)

def dat0 (c : Dev nD) : Dat τ (Elt F) (HIx 1) ℕ UU ℕ cfg0 c where
  A w := match w with
    | ⟨0, _⟩ => A0 c
    | ⟨1, _⟩ => A3 c
    | ⟨2, _⟩ => J0 c
    | ⟨3, _⟩ => J1 c
  after w t := match w with
    | ⟨0, _⟩ => blk0 A0 c t
    | ⟨1, _⟩ => blk1 A3 c t
    | ⟨2, _⟩ => k0_pay1 (F := F) (blk0 A0 c t)
    | ⟨3, _⟩ => k0_pay2 (F := F) (blk1 A3 c t)
  Φ _ := Pipeline.scopedRest (Ix := HIx 1) (Name := ℕ) (U := UU) (Lvl := ℕ) (Val := Elt F) spec0 c
  q _ := fullShare
  owed _ := (K (F := F)).Otc c 0
  recorded _ := seen (F := F) c 0

theorem before0_0 (c : Dev nD) (t : Fin cfg0.N) (x : (cfg0.win 0).block.Idx → Elt F (cfg0.win 0).elt) :
    (dat0 A0 A3 J0 J1 c).before 0 t x = blk0 A0 c t := by
  unfold Dat.before; rw [if_pos (fetch0_0 t)]; rfl
theorem before0_1 (c : Dev nD) (t : Fin cfg0.N) (x : (cfg0.win 1).block.Idx → Elt F (cfg0.win 1).elt) :
    (dat0 A0 A3 J0 J1 c).before 1 t x = blk1 A3 c t := by
  unfold Dat.before; rw [if_pos (fetch0_1 t)]; rfl

/-- At every point the body turns the current buffers into what the region's data say. -/
theorem obligation0 (c : Dev nD) : BodyObligation (dat0 A0 A3 J0 J1 c) (defs₀ (F := F)) 𝒱₀ none Set.univ := fun t => by
  rw [bigSep_W0, bigSep_W0]
  rw [show (dat0 A0 A3 J0 J1 c).Φ t.castSucc = (dat0 A0 A3 J0 J1 c).Φ t.succ from rfl,
    show (dat0 A0 A3 J0 J1 c).owesAt none t.succ = (dat0 A0 A3 J0 J1 c).owesAt none t.castSucc from rfl]
  iintro ⟨HΦ, Howes, ⟨%x0, H0⟩, ⟨%x1, H1⟩, ⟨%x2, H2⟩, ⟨%x3, H3⟩⟩
  rw [before0_0, before0_1]
  iapply (transpose_wp c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2))
    (hstage0_2 ((cfg0.slots t 2).cast nbuf0_2)) (win0_3.stage (cfg0.slots t 3)) (hstage0_3 ((cfg0.slots t 3).cast nbuf0_3))
    (blk0 A0 c t) (blk1 A3 c t) _ _ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-! ## What the result arrays end at -/

theorem index0 : ∀ t : Fin cfg0.N, win0_0.index t 0 = t.val ∧ win0_0.index t 1 = 0 ∧ win0_1.index t 0 = t.val ∧ win0_1.index t 1 = 0
    ∧ win0_2.index t 0 = 0 ∧ win0_2.index t 1 = t.val ∧ win0_3.index t 0 = 0 ∧ win0_3.index t 1 = t.val := by
  decide +kernel

/-- A transposed block is the block of the transposed array. -/
theorem flipped_block {α : Type} (A : S320000x128.Idx → α) (t : ℕ) (ein : S3200x128.Idx → S320000x128.Idx) (eout : S128x3200.Idx → S128x320000.Idx)
    (h0 : ∀ x, (ein x 0).val = t * 3200 + (x 0).val) (h1 : ∀ x, (ein x 1).val = (x 1).val)
    (g0 : ∀ y, (eout y 0).val = (y 0).val) (g1 : ∀ y, (eout y 1).val = t * 3200 + (y 1).val) :
    transpose S128x3200 [1, 0] (fun x => A (ein x)) transposes_S3200x128_p1_0_S128x3200 = fun y => flipped A (eout y) := by
  funext y
  let k : S3200x128.Idx := fun a => match a with
    | ⟨0, _⟩ => (y 1 : Fin 3200)
    | ⟨1, _⟩ => (y 0 : Fin 128)
  rw [transpose_apply [1, 0] _ transposes_S3200x128_p1_0_S128x3200 y k (fun b => by fin_cases b <;> rfl)]
  refine congrArg A (funext fun a => Fin.ext ?_)
  fin_cases a
  · exact (h0 k).trans (g1 y).symm
  · exact (h1 k).trans (g0 y).symm

/-- So what is written back at a point is that point's block of the array transposed, -/
theorem flushed0_2 (c : Dev nD) (t : Fin cfg0.N) :
    (dat0 A0 A3 J0 J1 c).flushed 2 t = (win0_2.blk t).view.read (Elt F) (show Buf (Elt F) ((c : Thread nD τ).loc main_v0_0) from flipped (A0 c)) := by
  obtain ⟨e1, e2, -, -, e5, e6, -, -⟩ := index0 t
  exact flipped_block (A0 c) t.val (win0_0.rect t).emb (win0_2.rect t).emb
    (fun x => (Window.rect_emb_val win0_0 t x 0).trans (by rw [e1]; rfl)) (fun x => (Window.rect_emb_val win0_0 t x 1).trans (by rw [e2]; simp))
    (fun x => (Window.rect_emb_val win0_2 t x 0).trans (by rw [e5]; simp)) (fun x => (Window.rect_emb_val win0_2 t x 1).trans (by rw [e6]; rfl))

/-- for both arrays, -/
theorem flushed0_3 (c : Dev nD) (t : Fin cfg0.N) :
    (dat0 A0 A3 J0 J1 c).flushed 3 t = (win0_3.blk t).view.read (Elt F) (show Buf (Elt F) ((c : Thread nD τ).loc main_v0_1) from flipped (A3 c)) := by
  obtain ⟨-, -, e3, e4, -, -, e7, e8⟩ := index0 t
  exact flipped_block (A3 c) t.val (win0_1.rect t).emb (win0_3.rect t).emb
    (fun x => (Window.rect_emb_val win0_1 t x 0).trans (by rw [e3]; rfl)) (fun x => (Window.rect_emb_val win0_1 t x 1).trans (by rw [e4]; simp))
    (fun x => (Window.rect_emb_val win0_3 t x 0).trans (by rw [e7]; simp)) (fun x => (Window.rect_emb_val win0_3 t x 1).trans (by rw [e8]; rfl))

/-- and the blocks cover the arrays. -/
theorem point0 (y : S128x320000.Idx) : ∃ t : Fin cfg0.N, t.val * 3200 ≤ (y 1).val ∧ (y 1).val < t.val * 3200 + 3200 := by
  have h1 : (y 1).val < 320000 := (y 1).isLt
  have hN : cfg0.N = 100 := N_0
  exact ⟨⟨(y 1).val / 3200, by omega⟩, by dsimp only; omega, by dsimp only; omega⟩

theorem cover0_2 (y : S128x320000.Idx) : ∃ t : Fin cfg0.N, (cfg0.win 2).flush t = true ∧ y ∈ ((cfg0.win 2).blk t).view.set := by
  obtain ⟨t, h1, h2⟩ := point0 y
  obtain ⟨-, -, -, -, e5, e6, -, -⟩ := index0 t
  refine ⟨t, flush0_2 t, ?_⟩
  show y ∈ ((View.whole main_v0_0).slice (win0_2.rect t)).set
  rw [View.set_slice_whole, Rect.mem_set_unit]
  have h0 : (y 0).val < 128 := (y 0).isLt
  intro a
  match a with
  | ⟨0, _⟩ => show win0_2.index t 0 * 128 ≤ (y 0).val ∧ (y 0).val < win0_2.index t 0 * 128 + 128
              rw [e5]; omega
  | ⟨1, _⟩ => show win0_2.index t 1 * 3200 ≤ (y 1).val ∧ (y 1).val < win0_2.index t 1 * 3200 + 3200
              rw [e6]; exact ⟨h1, h2⟩

theorem cover0_3 (y : S128x320000.Idx) : ∃ t : Fin cfg0.N, (cfg0.win 3).flush t = true ∧ y ∈ ((cfg0.win 3).blk t).view.set := by
  obtain ⟨t, h1, h2⟩ := point0 y
  obtain ⟨-, -, -, -, -, -, e7, e8⟩ := index0 t
  refine ⟨t, flush0_3 t, ?_⟩
  show y ∈ ((View.whole main_v0_1).slice (win0_3.rect t)).set
  rw [View.set_slice_whole, Rect.mem_set_unit]
  have h0 : (y 0).val < 128 := (y 0).isLt
  intro a
  match a with
  | ⟨0, _⟩ => show win0_3.index t 0 * 128 ≤ (y 0).val ∧ (y 0).val < win0_3.index t 0 * 128 + 128
              rw [e7]; omega
  | ⟨1, _⟩ => show win0_3.index t 1 * 3200 ≤ (y 1).val ∧ (y 1).val < win0_3.index t 1 * 3200 + 3200
              rw [e8]; exact ⟨h1, h2⟩

/-- The result arrays end transposed. -/
theorem final0_2 (c : Dev nD) : (dat0 A0 A3 J0 J1 c).arrAt 2 cfg0.N = flipped (A0 c) :=
  (dat0 A0 A3 J0 J1 c).arrAt_eq_of_cover 2 (flipped (A0 c)) (fun t _ => flushed0_2 A0 A3 J0 J1 c t) cover0_2
theorem final0_3 (c : Dev nD) : (dat0 A0 A3 J0 J1 c).arrAt 3 cfg0.N = flipped (A3 c) :=
  (dat0 A0 A3 J0 J1 c).arrAt_eq_of_cover 3 (flipped (A3 c)) (fun t _ => flushed0_3 A0 A3 J0 J1 c t) cover0_3

/-! ## The region between two states of the TensorCore -/

variable (adm : (p : Fin 2) → (pcfgs (F := F) p).Adm)

def dats0 : (p : Fin 2) → (c : Dev nD) → Dat τ (Elt F) (HIx 1) ℕ UU ℕ (Pipeline.pin (pcfgs (F := F)) adm p) c
  | ⟨0, _⟩ => fun c => dat0 A0 A3 J0 J1 c
  | ⟨1, _⟩ => fun c => idleDat c

/-- The four arrays, at the given contents. -/
abbrev arrs0 (c : Dev nD) (a0 : S320000x128.Idx → BitVec 32) (a3 : S320000x128.Idx → F .f32) (v0 : S128x320000.Idx → BitVec 32)
    (v1 : S128x320000.Idx → F .f32) : sProp 𝕄 :=
  iprop(((c : Thread nD τ).loc main_arg0 ↦{fullShare} (show Buf (Elt F) ((c : Thread nD τ).loc main_arg0) from a0))
    ∗ ((c : Thread nD τ).loc main_arg3 ↦{fullShare} (show Buf (Elt F) ((c : Thread nD τ).loc main_arg3) from a3))
    ∗ ((c : Thread nD τ).loc main_v0_0 ↦{fullShare} (show Buf (Elt F) ((c : Thread nD τ).loc main_v0_0) from v0))
    ∗ ((c : Thread nD τ).loc main_v0_1 ↦{fullShare} (show Buf (Elt F) ((c : Thread nD τ).loc main_v0_1) from v1)))

theorem waits0 (c : Dev nD) (n : ℕ) (g : GSem nD τ sig) : (K (F := F)).Otc c n g none = 0 := by
  by_contra h
  have := (K (F := F)).lev_of_Otc_pos (Nat.pos_of_ne_zero h)
  rw [SparseCore.Cfg.lev_none] at this
  omega

theorem arrays0 (c : Dev nD) (f : (w : Fin 4) → Buf (Elt F) ((spec0 w).arr.view.loc (c.tc : Thread nD τ))) :
    ((dats0 A0 A3 J0 J1 adm 0 c).arrays f : sProp 𝕄) = arrs0 c (f 0) (f 1) (f 2) (f 3) := by
  rw [Pipeline.arrays_eq (Pipeline.pin (pcfgs (F := F)) adm) (dats0 A0 A3 J0 J1 adm) 0 c launch0.arr_whole
    ((dats0 A0 A3 J0 J1 adm 0 c).share_full fun _ => rfl) f]
  exact bigSep_W0 _

set_option backward.isDefEq.respectTransparency.types false in
/-- The first region: from the two edge arrays and the two arrays for their transposes, to the same with the transposes
    written. -/
def reg0 : Pipeline.RegionSeg (pcfgs (F := F)) adm (dats0 A0 A3 J0 J1 adm) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (obligation0 A0 A3 J0 J1 c).loose
  hwaits c := Pipeline.cellsWaits_intro _ _ _ _ _ fun w s t => (K (F := F)).mayWait_none _ (waits0 c 0)
  pre c := iprop(arrs0 c (A0 c) (A3 c) (J0 c) (J1 c) ∗ tcOwes c 0)
  post c := iprop(arrs0 c (A0 c) (A3 c) (flipped (A0 c)) (flipped (A3 c)) ∗ tcOwes c 0)
  X _ := BI.emp
  Y _ := BI.emp
  Z _ := BI.emp
  hentry c := by
    rw [Pipeline.ownSems0_none, arrays0]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p hp)
      iexact HO
    isplitr <;> iempintro
  hin c := by
    rw [show (dats0 A0 A3 J0 J1 adm 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (dats0 A0 A3 J0 J1 adm 0 c).Φ (Fin.last _)
      = Pipeline.scopedRest (Ix := HIx 1) (Name := ℕ) (U := UU) (Lvl := ℕ) (Val := Elt F) spec0 c from rfl]
    iintro Hr
    isplitr; · iempintro
    isplitr; · iempintro
    iexact Hr
  hexit c := by
    rw [arrays0]
    iintro ⟨Ha, HO, -, -⟩
    imodintro
    isplitl [Ha]
    · rw [show (dats0 A0 A3 J0 J1 adm 0 c).arrAt 0 (Pipeline.pin (pcfgs (F := F)) adm 0).N = A0 c from (dat0 A0 A3 J0 J1 c).arrAt_in 0 rfl _,
        show (dats0 A0 A3 J0 J1 adm 0 c).arrAt 1 (Pipeline.pin (pcfgs (F := F)) adm 0).N = A3 c from (dat0 A0 A3 J0 J1 c).arrAt_in 1 rfl _,
        show (dats0 A0 A3 J0 J1 adm 0 c).arrAt 2 (Pipeline.pin (pcfgs (F := F)) adm 0).N = flipped (A0 c) from final0_2 A0 A3 J0 J1 c,
        show (dats0 A0 A3 J0 J1 adm 0 c).arrAt 3 (Pipeline.pin (pcfgs (F := F)) adm 0).N = flipped (A3 c) from final0_3 A0 A3 J0 J1 c]
      iexact Ha
    unfold Pipeline.Dat.owesAt Pipeline.owesWithin
    icases HO with ⟨%W, %hW, HO⟩; iexists W; isplitr
    · ipureintro
      intro p hp
      rcases hW hp with h | ⟨w, s, h⟩
      · exact h
      · rw [h]; exact Nat.zero_le _
    iexact HO

end Cert.Proof.Edge

end
-- ==== Proof.Region2.lean ====
/-
  The last TensorCore region: block by block, the numerators divided by the base plus the two partial sums.
-/
module

public import proofs.«01_k».proof.Proof.Region0

@[expose] public section

noncomputable section

namespace Cert.Proof.Edge

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The region's data -/

/-- The index of the two partial sums' array at half `g` that goes with `y`. -/
def half (g : Fin 2) (y : S10000x128.Idx) : S2x10000x128.Idx := fun a => match a with
  | ⟨0, _⟩ => (g : Fin 2)
  | ⟨1, _⟩ => (y 0 : Fin 10000)
  | ⟨2, _⟩ => (y 1 : Fin 128)

/-- The result: the numerators divided by the base plus the two partial sums. -/
def combined (N B : S10000x128.Idx → F .f32) (P : S2x10000x128.Idx → F .f32) : S10000x128.Idx → F .f32 := fun y =>
  FloatOps.divf (N y) (FloatOps.addf (FloatOps.addf (B y) (P (half 0 y))) (P (half 1 y)))

variable (N B : Dev nD → S10000x128.Idx → F .f32) (P : Dev nD → S2x10000x128.Idx → F .f32) (O : Dev nD → S10000x128.Idx → F .f32)

/-- The blocks of the three inputs at point `t`. -/
abbrev blkN (c : Dev nD) (t : Fin cfg2.N) : S1000x128.Idx → Elt F .f32 :=
  ((cfg2.win 0).blk t).view.read (Elt F) (show Buf (Elt F) ((c : Thread nD τ).loc main_arg1) from N c)
abbrev blkB (c : Dev nD) (t : Fin cfg2.N) : S1000x128.Idx → Elt F .f32 :=
  ((cfg2.win 1).blk t).view.read (Elt F) (show Buf (Elt F) ((c : Thread nD τ).loc main_arg2) from B c)
abbrev blkP (c : Dev nD) (t : Fin cfg2.N) : S2x1000x128.Idx → Elt F .f32 :=
  ((cfg2.win 2).blk t).view.read (Elt F) (show Buf (Elt F) ((c : Thread nD τ).loc main_v4) from P c)

/-- The two halves of a block of partial sums, as the body loads them. -/
abbrev lower : Rect S2x1000x128 := Rect.unit (s := S2x1000x128) ![0, 0, 0] S1x1000x128.size inb_S2x1000x128_S1x1000x128_0_0_0
abbrev upper : Rect S2x1000x128 := Rect.unit (s := S2x1000x128) ![1, 0, 0] S1x1000x128.size inb_S2x1000x128_S1x1000x128_1_0_0

def dat2 (c : Dev nD) : Dat τ (Elt F) (HIx 1) ℕ UU ℕ cfg2 c where
  A w := match w with
    | ⟨0, _⟩ => N c
    | ⟨1, _⟩ => B c
    | ⟨2, _⟩ => P c
    | ⟨3, _⟩ => O c
  after w t := match w with
    | ⟨0, _⟩ => blkN N c t
    | ⟨1, _⟩ => blkB B c t
    | ⟨2, _⟩ => blkP P c t
    | ⟨3, _⟩ => k2_pay1 (F := F) (blkB B c t) (fun x => blkP P c t (lower.emb x)) (fun x => blkP P c t (upper.emb x)) (blkN N c t)
  Φ _ := Pipeline.scopedRest (Ix := HIx 1) (Name := ℕ) (U := UU) (Lvl := ℕ) (Val := Elt F) spec2 c
  q _ := fullShare
  owed _ := (K (F := F)).Otc c 1
  recorded _ := seen (F := F) c 1

theorem before2_0 (c : Dev nD) (t : Fin cfg2.N) (x : (cfg2.win 0).block.Idx → Elt F (cfg2.win 0).elt) :
    (dat2 N B P O c).before 0 t x = blkN N c t := by
  unfold Dat.before; rw [if_pos (fetch2_0 t)]; rfl
theorem before2_1 (c : Dev nD) (t : Fin cfg2.N) (x : (cfg2.win 1).block.Idx → Elt F (cfg2.win 1).elt) :
    (dat2 N B P O c).before 1 t x = blkB B c t := by
  unfold Dat.before; rw [if_pos (fetch2_1 t)]; rfl
theorem before2_2 (c : Dev nD) (t : Fin cfg2.N) (x : (cfg2.win 2).block.Idx → Elt F (cfg2.win 2).elt) :
    (dat2 N B P O c).before 2 t x = blkP P c t := by
  unfold Dat.before; rw [if_pos (fetch2_2 t)]; rfl

/-- At every point the body turns the current buffers into what the region's data say. -/
theorem obligation2 (c : Dev nD) : BodyObligation (dat2 N B P O c) (defs₀ (F := F)) 𝒱₀ none Set.univ := fun t => by
  rw [bigSep_W2, bigSep_W2]
  rw [show (dat2 N B P O c).Φ t.castSucc = (dat2 N B P O c).Φ t.succ from rfl,
    show (dat2 N B P O c).owesAt none t.succ = (dat2 N B P O c).owesAt none t.castSucc from rfl]
  iintro ⟨HΦ, Howes, ⟨%x0, H0⟩, ⟨%x1, H1⟩, ⟨%x2, H2⟩, ⟨%x3, H3⟩⟩
  rw [before2_0, before2_1, before2_2]
  iapply (combine_wp c (grid2.coords t) (win2_0.stage (cfg2.slots t 0)) (hstage2_0 ((cfg2.slots t 0).cast nbuf2_0))
    (win2_1.stage (cfg2.slots t 1)) (hstage2_1 ((cfg2.slots t 1).cast nbuf2_1)) (win2_2.stage (cfg2.slots t 2))
    (hstage2_2 ((cfg2.slots t 2).cast nbuf2_2)) (win2_3.stage (cfg2.slots t 3)) (hstage2_3 ((cfg2.slots t 3).cast nbuf2_3))
    (blkN N c t) (blkB B c t) (blkP P c t) _ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-! ## What the result array ends at -/

theorem index2 : ∀ t : Fin cfg2.N, win2_0.index t 0 = t.val ∧ win2_0.index t 1 = 0 ∧ win2_1.index t 0 = t.val ∧ win2_1.index t 1 = 0
    ∧ win2_2.index t 0 = 0 ∧ win2_2.index t 1 = t.val ∧ win2_2.index t 2 = 0 ∧ win2_3.index t 0 = t.val ∧ win2_3.index t 1 = 0 := by
  decide +kernel

/-- A combined block is the block of the combined arrays. -/
theorem combined_block (n b : S10000x128.Idx → F .f32) (p : S2x10000x128.Idx → F .f32) (t : ℕ)
    (e : S1000x128.Idx → S10000x128.Idx) (ep : S2x1000x128.Idx → S2x10000x128.Idx)
    (h0 : ∀ x, (e x 0).val = t * 1000 + (x 0).val) (h1 : ∀ x, (e x 1).val = (x 1).val)
    (g0 : ∀ x, (ep x 0).val = (x 0).val) (g1 : ∀ x, (ep x 1).val = t * 1000 + (x 1).val) (g2 : ∀ x, (ep x 2).val = (x 2).val) :
    k2_pay1 (F := F) (fun x => b (e x)) (fun x => p (ep (lower.emb x))) (fun x => p (ep (upper.emb x))) (fun x => n (e x))
      = fun y => combined n b p (e y) := by
  funext y
  let k : S1x1000x128.Idx := fun a => match a with
    | ⟨0, _⟩ => (0 : Fin 1)
    | ⟨1, _⟩ => (y 0 : Fin 1000)
    | ⟨2, _⟩ => (y 1 : Fin 128)
  have hk : (S1x1000x128.rowMajor k).val = (S1000x128.rowMajor y).val := by
    rw [Shape.rowMajor_val_three, Shape.rowMajor_val_two]
    show (0 * 1000 + (y 0).val) * 128 + (y 1).val = (y 0).val * 128 + (y 1).val
    omega
  show FloatOps.divf (n (e y)) (FloatOps.addf (FloatOps.addf (b (e y))
    (shapeCast S1000x128 (fun x => p (ep (lower.emb x))) shapeCasts_S1x1000x128_S1000x128 y))
    (shapeCast S1000x128 (fun x => p (ep (upper.emb x))) shapeCasts_S1x1000x128_S1000x128 y)) = _
  rw [shapeCast_apply _ shapeCasts_S1x1000x128_S1000x128 y k hk, shapeCast_apply _ shapeCasts_S1x1000x128_S1000x128 y k hk]
  have hl : ep (lower.emb k) = half 0 (e y) := by
    funext a
    apply Fin.ext
    fin_cases a
    · exact (g0 _).trans rfl
    · exact (g1 _).trans (Eq.trans (by show t * 1000 + (0 + 1 * (y 0).val) = t * 1000 + (y 0).val; omega) (h0 y).symm)
    · exact (g2 _).trans (Eq.trans (by show 0 + 1 * (y 1).val = (y 1).val; omega) (h1 y).symm)
  have hu : ep (upper.emb k) = half 1 (e y) := by
    funext a
    apply Fin.ext
    fin_cases a
    · exact (g0 _).trans rfl
    · exact (g1 _).trans (Eq.trans (by show t * 1000 + (0 + 1 * (y 0).val) = t * 1000 + (y 0).val; omega) (h0 y).symm)
    · exact (g2 _).trans (Eq.trans (by show 0 + 1 * (y 1).val = (y 1).val; omega) (h1 y).symm)
  rw [hl, hu]
  rfl

/-- So what is written back at a point is that point's block of the combination, -/
theorem flushed2_3 (c : Dev nD) (t : Fin cfg2.N) :
    (dat2 N B P O c).flushed 3 t
      = (win2_3.blk t).view.read (Elt F) (show Buf (Elt F) ((c : Thread nD τ).loc main_v5) from combined (N c) (B c) (P c)) := by
  obtain ⟨e1, e2, e3, e4, e5, e6, e7, e8, e9⟩ := index2 t
  have hin : ∀ x : S1000x128.Idx, ((win2_0.rect t).emb x : S10000x128.Idx) = (win2_3.rect t).emb x := fun x => by
    funext a
    apply Fin.ext
    fin_cases a
    · exact (Window.rect_emb_val win2_0 t x 0).trans ((Window.rect_emb_val win2_3 t x 0).trans (by rw [e1, e8])).symm
    · exact (Window.rect_emb_val win2_0 t x 1).trans ((Window.rect_emb_val win2_3 t x 1).trans (by rw [e2, e9])).symm
  have hin' : ∀ x : S1000x128.Idx, ((win2_1.rect t).emb x : S10000x128.Idx) = (win2_3.rect t).emb x := fun x => by
    funext a
    apply Fin.ext
    fin_cases a
    · exact (Window.rect_emb_val win2_1 t x 0).trans ((Window.rect_emb_val win2_3 t x 0).trans (by rw [e3, e8])).symm
    · exact (Window.rect_emb_val win2_1 t x 1).trans ((Window.rect_emb_val win2_3 t x 1).trans (by rw [e4, e9])).symm
  show k2_pay1 (F := F) (fun x => B c ((win2_1.rect t).emb x)) (fun x => P c ((win2_2.rect t).emb (lower.emb x)))
    (fun x => P c ((win2_2.rect t).emb (upper.emb x))) (fun x => N c ((win2_0.rect t).emb x)) = _
  have hB : (fun x : S1000x128.Idx => B c ((win2_1.rect t).emb x)) = fun x => B c ((win2_3.rect t).emb x) := funext fun x => congrArg (B c) (hin' x)
  have hN : (fun x : S1000x128.Idx => N c ((win2_0.rect t).emb x)) = fun x => N c ((win2_3.rect t).emb x) := funext fun x => congrArg (N c) (hin x)
  refine (congrArg₂ (fun b n => k2_pay1 (F := F) b (fun x => P c ((win2_2.rect t).emb (lower.emb x)))
    (fun x => P c ((win2_2.rect t).emb (upper.emb x))) n) hB hN).trans ?_
  exact combined_block (N c) (B c) (P c) t.val (win2_3.rect t).emb (win2_2.rect t).emb
    (fun x => (Window.rect_emb_val win2_3 t x 0).trans (by rw [e8]; rfl)) (fun x => (Window.rect_emb_val win2_3 t x 1).trans (by rw [e9]; simp))
    (fun x => (Window.rect_emb_val win2_2 t x 0).trans (by rw [e5]; simp)) (fun x => (Window.rect_emb_val win2_2 t x 1).trans (by rw [e6]; rfl))
    (fun x => (Window.rect_emb_val win2_2 t x 2).trans (by rw [e7]; simp))

/-- and the blocks cover the result. -/
theorem cover2_3 (y : S10000x128.Idx) : ∃ t : Fin cfg2.N, (cfg2.win 3).flush t = true ∧ y ∈ ((cfg2.win 3).blk t).view.set := by
  have h0 : (y 0).val < 10000 := (y 0).isLt
  have h1 : (y 1).val < 128 := (y 1).isLt
  have hN : cfg2.N = 10 := N_2
  let t : Fin cfg2.N := ⟨(y 0).val / 1000, by omega⟩
  obtain ⟨-, -, -, -, -, -, -, e8, e9⟩ := index2 t
  refine ⟨t, flush2_3 t, ?_⟩
  show y ∈ ((View.whole main_v5).slice (win2_3.rect t)).set
  rw [View.set_slice_whole, Rect.mem_set_unit]
  intro a
  match a with
  | ⟨0, _⟩ => show win2_3.index t 0 * 1000 ≤ (y 0).val ∧ (y 0).val < win2_3.index t 0 * 1000 + 1000
              rw [e8]
              show (y 0).val / 1000 * 1000 ≤ _ ∧ _ < (y 0).val / 1000 * 1000 + 1000
              omega
  | ⟨1, _⟩ => show win2_3.index t 1 * 128 ≤ (y 1).val ∧ (y 1).val < win2_3.index t 1 * 128 + 128
              rw [e9]; omega

/-- The result array ends combined. -/
theorem final2_3 (c : Dev nD) : (dat2 N B P O c).arrAt 3 cfg2.N = combined (N c) (B c) (P c) :=
  (dat2 N B P O c).arrAt_eq_of_cover 3 (combined (N c) (B c) (P c)) (fun t _ => flushed2_3 N B P O c t) cover2_3

/-! ## The region between two states of the TensorCore -/

variable (adm : (p : Fin 2) → (pcfgs (F := F) p).Adm)

def dats2 : (p : Fin 2) → (c : Dev nD) → Dat τ (Elt F) (HIx 1) ℕ UU ℕ (Pipeline.pin (pcfgs (F := F)) adm p) c
  | ⟨0, _⟩ => fun c => idleDat c
  | ⟨1, _⟩ => fun c => dat2 N B P O c

/-- The four arrays, at the given contents. -/
abbrev arrs2 (c : Dev nD) (n b : S10000x128.Idx → F .f32) (p : S2x10000x128.Idx → F .f32) (o : S10000x128.Idx → F .f32) : sProp 𝕄 :=
  iprop(((c : Thread nD τ).loc main_arg1 ↦{fullShare} (show Buf (Elt F) ((c : Thread nD τ).loc main_arg1) from n))
    ∗ ((c : Thread nD τ).loc main_arg2 ↦{fullShare} (show Buf (Elt F) ((c : Thread nD τ).loc main_arg2) from b))
    ∗ ((c : Thread nD τ).loc main_v4 ↦{fullShare} (show Buf (Elt F) ((c : Thread nD τ).loc main_v4) from p))
    ∗ ((c : Thread nD τ).loc main_v5 ↦{fullShare} (show Buf (Elt F) ((c : Thread nD τ).loc main_v5) from o)))

theorem arrays2 (c : Dev nD) (f : (w : Fin 4) → Buf (Elt F) ((spec2 w).arr.view.loc (c.tc : Thread nD τ))) :
    ((dats2 N B P O adm 1 c).arrays f : sProp 𝕄) = arrs2 c (f 0) (f 1) (f 2) (f 3) := by
  rw [Pipeline.arrays_eq (Pipeline.pin (pcfgs (F := F)) adm) (dats2 N B P O adm) 1 c launch2.arr_whole
    ((dats2 N B P O adm 1 c).share_full fun _ => rfl) f]
  exact bigSep_W2 _

set_option backward.isDefEq.respectTransparency.types false in
/-- The last region: from the numerators, the base, the partial sums and the result's array, to the same with the result
    written. -/
def reg2 : Pipeline.RegionSeg (pcfgs (F := F)) adm (dats2 N B P O adm) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (obligation2 N B P O c).loose
  hwaits c := Pipeline.cellsWaits_intro _ _ _ _ _ fun w s t => (K (F := F)).mayWait_none _ (waits0 c 1)
  pre c := iprop(arrs2 c (N c) (B c) (P c) (O c) ∗ tcOwes c 1)
  post c := iprop(arrs2 c (N c) (B c) (P c) (combined (N c) (B c) (P c)) ∗ tcOwes c 1)
  X _ := BI.emp
  Y _ := BI.emp
  Z _ := BI.emp
  hentry c := by
    rw [Pipeline.ownSems0_none, arrays2]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p hp)
      iexact HO
    isplitr <;> iempintro
  hin c := by
    rw [show (dats2 N B P O adm 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (dats2 N B P O adm 1 c).Φ (Fin.last _)
      = Pipeline.scopedRest (Ix := HIx 1) (Name := ℕ) (U := UU) (Lvl := ℕ) (Val := Elt F) spec2 c from rfl]
    iintro Hr
    isplitr; · iempintro
    isplitr; · iempintro
    iexact Hr
  hexit c := by
    rw [arrays2]
    iintro ⟨Ha, HO, -, -⟩
    imodintro
    isplitl [Ha]
    · rw [show (dats2 N B P O adm 1 c).arrAt 0 (Pipeline.pin (pcfgs (F := F)) adm 1).N = N c from (dat2 N B P O c).arrAt_in 0 rfl _,
        show (dats2 N B P O adm 1 c).arrAt 1 (Pipeline.pin (pcfgs (F := F)) adm 1).N = B c from (dat2 N B P O c).arrAt_in 1 rfl _,
        show (dats2 N B P O adm 1 c).arrAt 2 (Pipeline.pin (pcfgs (F := F)) adm 1).N = P c from (dat2 N B P O c).arrAt_in 2 rfl _,
        show (dats2 N B P O adm 1 c).arrAt 3 (Pipeline.pin (pcfgs (F := F)) adm 1).N = combined (N c) (B c) (P c) from final2_3 N B P O c]
      iexact Ha
    unfold Pipeline.Dat.owesAt Pipeline.owesWithin
    icases HO with ⟨%W, %hW, HO⟩; iexists W; isplitr
    · ipureintro
      intro p hp
      rcases hW hp with h | ⟨w, s, h⟩
      · exact h
      · rw [h]; exact Nat.zero_le _
    iexact HO

end Cert.Proof.Edge

end
-- ==== Proof.Consume.lean ====
/-
  One slab's accumulation: the innermost loop of the subcore's body.

  The kernel writes this loop ten times, for the five slabs of each of its two pairs of staging buffers; all ten are one
  program at different buffers and slab numbers, so it is proved once (`wp_slab`) and the ten are instances.
-/
module

public import proofs.«01_k».proof.Proof.Mem

@[expose] public section

noncomputable section

namespace Cert.Proof.Edge

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The thread of the subcore at grid coordinates `i` on device `d`. -/
abbrev thr (d : Dev nD) (i : grid1.Coords) : Thread nD τ := V d ((i 0).castLE hcore1) ((i 1).castLE hsub1)

/-- A chunk of 640 edges from edge `b`, for the eight columns of subcore `s`, as five slabs of 128. -/
def chunk {A : Type} (X : S128x320000.Idx → A) (s b : ℕ) : S5x8x128.Idx → A :=
  fun x => X (at2 (8 * s + (x 1).val) (b + 128 * (x 0).val + (x 2).val))

/-! ## The indices of one trip -/

/-- The lanes' indices into the staging buffers are in range, -/
theorem chk1_ok (g : Fin 5) (t : Fin k1_t3_loop.trips) : k1_chk1 k1_pay17 (broadcast S16 (BitVec.ofNat 32 g.val)) (k1_pay1 k1_pay18 t) := by
  have h : ∀ a x, ((![broadcast S16 (BitVec.ofNat 32 g.val), k1_pay17, k1_pay1 k1_pay18 t] : Fin 3 → IVec S16 32) a x).toNat < S5x8x128.size a := by
    intro a x
    obtain ⟨k, rfl⟩ := ln_surj x
    have ht : t.val < 64 := t.isLt
    have hk := k.isLt
    fin_cases a
    · show (BitVec.ofNat 32 g.val).toNat < 5
      rw [BitVec.toNat_ofNat]; have := g.isLt; omega
    · show (k1_pay17 (ln k)).toNat < 8
      rw [pay17_lane]; omega
    · show (k1_pay1 k1_pay18 t (ln k)).toNat < 128
      rw [pay1_lane]; omega
  exact ⟨h, h⟩

/-- and so are the accumulator elements they name, when the node numbers are. -/
theorem chk2_ok (w : Vec F S16 .i32) (hw : ∀ k : Fin 16, (w (ln k)).toNat < 10000) : k1_chk2 (k1_pay2 (F := F) k1_pay17 w) := by
  have h : ∀ a x, ((![k1_pay2 (F := F) k1_pay17 w] : Fin 1 → IVec S16 32) a x).toNat < S80000.size a := by
    intro a x
    obtain ⟨k, rfl⟩ := ln_surj x
    obtain rfl : a = 0 := Subsingleton.elim _ _
    show (k1_pay2 (F := F) k1_pay17 w (ln k)).toNat < 80000
    rw [pay2_lane w k (hw k)]
    have := hw k; omega
  exact ⟨h, h⟩

/-- What a lane of trip `t` reads of slab `g` of a chunk. -/
theorem load_chunk {e : EltTy} (X : S128x320000.Idx → Elt F e) (s b : ℕ) (g : Fin 5) (t : Fin k1_t3_loop.trips)
    (h : ∀ a x, ((![broadcast S16 (BitVec.ofNat 32 g.val), k1_pay17, k1_pay1 k1_pay18 t] : Fin 3 → IVec S16 32) a x).toNat < S5x8x128.size a)
    (k : Fin 16) :
    loadIdx (F := F) (e := e) (chunk X s b) ![broadcast S16 (BitVec.ofNat 32 g.val), k1_pay17, k1_pay1 k1_pay18 t] h (ln k)
      = X (at2 (8 * s + k.val % 8) (b + 128 * g.val + 2 * t.val + k.val / 8)) := by
  show X (at2 (8 * s + (k1_pay17 (ln k)).toNat) (b + 128 * (BitVec.ofNat 32 g.val).toNat + (k1_pay1 k1_pay18 t (ln k)).toNat)) = _
  rw [pay17_lane, pay1_lane, BitVec.toNat_ofNat, show g.val % 2 ^ 32 = g.val from Nat.mod_eq_of_lt (by have := g.isLt; omega),
    show b + 128 * g.val + (k.val / 8 + 2 * t.val) = b + 128 * g.val + 2 * t.val + k.val / 8 by omega]

section Loop

variable (d : Dev nD) (i : grid1.Coords) (arg2 : Memref sig .scVector .hbm S128x320000 .i32) (harg2 : arg2.IsWhole) (arg3 : Memref sig .scVector .hbm S128x320000 .f32) (harg3 : arg3.IsWhole) (arg4 : Memref sig .scVector .hbm S2x16x80000 .f32) (harg4 : arg4.IsWhole) (arg5 : Memref sig .scVector .vmem S80000 .f32) (harg5 : arg5.IsWhole) (arg6 : Memref sig .scVector .vmem S5x8x128 .i32) (harg6 : arg6.IsWhole) (arg7 : Memref sig .scVector .vmem S5x8x128 .i32) (harg7 : arg7.IsWhole) (arg8 : Memref sig .scVector .vmem S5x8x128 .f32) (harg8 : arg8.IsWhole) (arg9 : Memref sig .scVector .vmem S5x8x128 .f32) (harg9 : arg9.IsWhole) (arg10 arg11 arg12 arg13 v80_r0 : DmaSems sig S_)
  (I : S128x320000.Idx → BitVec 32) (X : S128x320000.Idx → F .f32)

/-- The staging pair and the accumulator between two trips: the pair at the chunk from edge `base + b`, the accumulator
    at the first `e` edges. -/
def slabInv (s base b e : ℕ) : sProp 𝕄 :=
  iprop(owns (thr d i) arg6 fullShare (chunk I s (base + b)) ∗ owns (thr d i) arg8 fullShare (chunk X s (base + b))
    ∗ owns (thr d i) arg5 fullShare (acc I X s base e))

/-- One trip adds two edges. -/
theorem wp_trip (hI : ∀ x, (I x).toNat < 10000) (s base b : ℕ) (g : Fin 5) (t : Fin k1_t3_loop.trips) (w : BitVec 32) (k1_t2 : Fin k1_t2_loop.trips) :
    slabInv (F := F) d i arg5 arg6 arg8 I X s base b (b + 128 * g.val + 2 * t.val)
      ⊢ wp frame (wpE defs₀ 𝒱₀ (thr d i) none) Set.univ
          (k1_t3_body (F := F) i arg2 harg2 arg3 harg3 arg4 harg4 arg5 harg5 arg6 harg6 arg7 harg7 arg8 harg8 arg9 harg9 arg10 arg11 arg12 arg13 v80_r0
            k1_pay17 k1_pay18 k1_pay19 k1_pay20 k1_t2 w (broadcast S16 (BitVec.ofNat 32 g.val)) t ())
          (fun _ => slabInv (F := F) d i arg5 arg6 arg8 I X s base b (b + 128 * g.val + 2 * (t.val + 1))) := by
  unfold k1_t3_body slabInv
  simp only [Prog.lift, Prog.bind_op, Prog.bind_ret, Prog.pure_eq_ret]
  iintro ⟨HI, HS, HA⟩
  iapply (wp_assume 𝒱₀ (thr d i) none Set.univ (chk1_ok g t))
  iapply (wp_loadIdx 𝒱₀ (thr d i) none arg6 (chunk I s (base + b))) $$ HI
  iintro HI
  iapply (wp_loadIdx 𝒱₀ (thr d i) none arg8 (chunk X s (base + b))) $$ HS
  iintro HS
  iapply (wp_assume 𝒱₀ (thr d i) none Set.univ (chk2_ok _ fun k => (congrArg BitVec.toNat (load_chunk (F := F) (e := .i32) I s (base + b) g t (chk1_ok g t).1 k)).trans_lt (hI _)))
  iapply (wp_storeIdx 𝒱₀ (thr d i) none arg5 _) $$ HA
  iintro HA
  iapply (wp_storeIdx 𝒱₀ (thr d i) none arg5 _) $$ HA
  iintro HA
  rw [wp_ret]
  imodintro
  rw [trip_two I X s (base + (b + 128 * g.val + 2 * t.val)) _ _ _ hI
    (fun l => (load_chunk (F := F) (e := .i32) I s (base + b) g t (chk1_ok g t).1 l).trans (by congr 2; omega))
    (fun l => (load_chunk (F := F) (e := .f32) X s (base + b) g t (chk1_ok g t).2 l).trans (by congr 2; omega))]
  isplitl [HI]; · iexact HI
  isplitl [HS]; · iexact HS
  iexact HA

/-- The five slabs' loops, and the same loops over the other pair, are one program; a slab's loop adds its 128 edges. -/
theorem wp_slab (hI : ∀ x, (I x).toNat < 10000) (s base b : ℕ) (g : Fin 5) (w : BitVec 32) (k1_t2 : Fin k1_t2_loop.trips)
    {p : Prog (TpuEff nD τ sig (Elt F) Λ₀ (.scVector ((i 0).castLE hcore1) ((i 1).castLE hsub1))) PUnit}
    (hp : p = Scf.Loop.for k1_t3_loop k1_t3_ok ⟨⟩ (k1_t3_body (F := F) i arg2 harg2 arg3 harg3 arg4 harg4 arg5 harg5 arg6 harg6 arg7 harg7 arg8 harg8 arg9 harg9 arg10 arg11 arg12 arg13 v80_r0
            k1_pay17 k1_pay18 k1_pay19 k1_pay20 k1_t2 w (broadcast S16 (BitVec.ofNat 32 g.val)))) :
    slabInv (F := F) d i arg5 arg6 arg8 I X s base b (b + 128 * g.val)
      ⊢ wp frame (wpE defs₀ 𝒱₀ (thr d i) none) Set.univ p
          (fun _ => slabInv (F := F) d i arg5 arg6 arg8 I X s base b (b + 128 * (g.val + 1))) := by
  subst hp
  have hr := Scf.wp_for frame (wpE (defs₀ (F := F)) 𝒱₀ (thr d i) none) Set.univ _ _ _ k1_t3_ok PUnit.unit
    (k1_t3_body (F := F) i arg2 harg2 arg3 harg3 arg4 harg4 arg5 harg5 arg6 harg6 arg7 harg7 arg8 harg8 arg9 harg9 arg10 arg11 arg12 arg13 v80_r0
            k1_pay17 k1_pay18 k1_pay19 k1_pay20 k1_t2 w (broadcast S16 (BitVec.ofNat 32 g.val)))
    (fun t _ => slabInv (F := F) d i arg5 arg6 arg8 I X s base b (b + 128 * g.val + 2 * t))
    (fun t _ => wp_trip d i arg2 harg2 arg3 harg3 arg4 harg4 arg5 harg5 arg6 harg6 arg7 harg7 arg8 harg8 arg9 harg9 arg10 arg11 arg12 arg13 v80_r0 I X hI s base b g t w k1_t2)
    (Q := fun _ => slabInv (F := F) d i arg5 arg6 arg8 I X s base b (b + 128 * (g.val + 1)))
  iintro H
  iapply hr
  isplitl [H]; · iexact H
  iintro %_ H
  iexact H

end Loop

end Cert.Proof.Edge

end
-- ==== Proof.Zero.lean ====
/-
  Clearing the accumulator: 5000 trips, each storing sixteen zeros.
-/
module

public import proofs.«01_k».proof.Proof.Consume

@[expose] public section

noncomputable section

namespace Cert.Proof.Edge

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

section Zero

variable (s base : ℕ) (d : Dev nD) (i : grid1.Coords) (arg2 : Memref sig .scVector .hbm S128x320000 .i32) (harg2 : arg2.IsWhole) (arg3 : Memref sig .scVector .hbm S128x320000 .f32) (harg3 : arg3.IsWhole) (arg4 : Memref sig .scVector .hbm S2x16x80000 .f32) (harg4 : arg4.IsWhole) (arg5 : Memref sig .scVector .vmem S80000 .f32) (harg5 : arg5.IsWhole) (arg6 : Memref sig .scVector .vmem S5x8x128 .i32) (harg6 : arg6.IsWhole) (arg7 : Memref sig .scVector .vmem S5x8x128 .i32) (harg7 : arg7.IsWhole) (arg8 : Memref sig .scVector .vmem S5x8x128 .f32) (harg8 : arg8.IsWhole) (arg9 : Memref sig .scVector .vmem S5x8x128 .f32) (harg9 : arg9.IsWhole) (arg10 arg11 arg12 arg13 v80_r0 : DmaSems sig S_)
  (I : S128x320000.Idx → BitVec 32) (X : S128x320000.Idx → F .f32)

/-- The accumulator with its first `e` elements clear. -/
def zeroInv (e : ℕ) : sProp 𝕄 :=
  iprop(∃ Y : S80000.Idx → F .f32, ⌜∀ p : S80000.Idx, (p 0).val < e → Y p = Scalar.ofBits .f32 0x00000000#32⌝ ∗ owns (thr d i) arg5 fullShare Y)

/-- One trip clears sixteen elements more. -/
theorem wp_zeroTrip (t : Fin k1_t1_loop.trips) :
    zeroInv (F := F) d i arg5 (16 * t.val)
      ⊢ wp frame (wpE defs₀ 𝒱₀ (thr d i) none) Set.univ
          (k1_t1_body (F := F) i arg2 harg2 arg3 harg3 arg4 harg4 arg5 harg5 arg6 harg6 arg7 harg7 arg8 harg8 arg9 harg9 arg10 arg11 arg12 arg13 v80_r0 k1_pay21 t ())
          (fun _ => zeroInv (F := F) d i arg5 (16 * (t.val + 1))) := by
  unfold k1_t1_body zeroInv
  simp only [Prog.lift, Prog.bind_op, Prog.bind_ret, Prog.pure_eq_ret]
  iintro ⟨%Y, %hY, H⟩
  iapply (wp_load_any 𝒱₀ (thr d i) none arg5 Y) $$ H
  iintro %v H
  iapply (wp_store_rect 𝒱₀ (thr d i) none arg5 Y) $$ H
  iintro H
  rw [wp_ret]
  imodintro
  iexists _
  isplitr
  rotate_left
  · iexact H
  ipureintro
  intro p hp
  by_cases h : p ∈ (Rect.unit (s := S80000) (k1_off2 t) S16.size (k1_off2_inb t)).set
  · obtain ⟨x, rfl⟩ := (Rect.unit (s := S80000) (k1_off2 t) S16.size (k1_off2_inb t)).exists_idx_of_mem h
    exact (Rect.overlay_emb _ Y _ x).trans rfl
  · rw [Rect.overlay_of_not_mem _ _ _ h]
    apply hY
    by_contra hlt
    apply h
    rw [Rect.mem_set_unit]
    intro a
    obtain rfl : a = 0 := Subsingleton.elim _ _
    rw [k1_off2_eq t]
    exact ⟨show 16 * t.val ≤ (p 0).val by omega, show (p 0).val < 16 * t.val + 16 by omega⟩

/-- The loop clears the accumulator, whatever it held. -/
theorem wp_zero :
    (iprop(∃ Y : S80000.Idx → F .f32, owns (thr d i) arg5 fullShare Y) : sProp 𝕄)
      ⊢ wp frame (wpE defs₀ 𝒱₀ (thr d i) none) Set.univ
          (Scf.Loop.for k1_t1_loop k1_t1_ok ⟨⟩ (k1_t1_body (F := F) i arg2 harg2 arg3 harg3 arg4 harg4 arg5 harg5 arg6 harg6 arg7 harg7 arg8 harg8 arg9 harg9 arg10 arg11 arg12 arg13 v80_r0 k1_pay21))
          (fun _ => (owns (thr d i) arg5 fullShare (acc I X s base 0) : sProp 𝕄)) := by
  have hr := Scf.wp_for frame (wpE (defs₀ (F := F)) 𝒱₀ (thr d i) none) Set.univ _ _ _ k1_t1_ok PUnit.unit
    (k1_t1_body (F := F) i arg2 harg2 arg3 harg3 arg4 harg4 arg5 harg5 arg6 harg6 arg7 harg7 arg8 harg8 arg9 harg9 arg10 arg11 arg12 arg13 v80_r0 k1_pay21)
    (fun t _ => zeroInv (F := F) d i arg5 (16 * t))
    (fun t _ => wp_zeroTrip d i arg2 harg2 arg3 harg3 arg4 harg4 arg5 harg5 arg6 harg6 arg7 harg7 arg8 harg8 arg9 harg9 arg10 arg11 arg12 arg13 v80_r0 t)
    (Q := fun _ => (owns (thr d i) arg5 fullShare (acc I X s base 0) : sProp 𝕄))
  iintro ⟨%Y, H⟩
  iapply hr
  isplitl [H]
  · unfold zeroInv
    iexists Y
    isplitr
    · ipureintro; intro p hp; exact absurd hp (by omega)
    iexact H
  iintro %_ H
  unfold zeroInv
  icases H with ⟨%Z, %hZ, H⟩
  have hZ' : Z = acc I X s base 0 := funext fun p => hZ p (p 0).isLt
  subst hZ'
  iexact H

end Zero

end Cert.Proof.Edge

end
-- ==== Proof.Steps.lean ====
/-
  A pair of staging buffers — one for node numbers, one for values — and one step of the subcore's program on it: starting
  a slab's transfer, waiting for one, adding a slab's edges.

  Each step is stated as "if the program goes on from the state after, it goes on from the state before", whatever else
  (`R`) the subcore holds, so that a stretch of the program is a chain of them.
-/
module

public import proofs.«01_k».proof.Proof.Zero

@[expose] public section

noncomputable section

namespace Cert.Proof.Edge

open Cert.KernelIdeal Cert.KernelIdeal.Gen
open Idealize.ShloMosaic
open Idealize.ShloMosaic.SparseCore (S V T)
open Idealize.ShloMosaic.Transfers
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

section Pair

variable (d : Dev nD) (i : grid1.Coords)
  (I : S128x320000.Idx → BitVec 32) (X : S128x320000.Idx → F .f32)

/-- The subcore's first edge: each SparseCore takes half of them. -/
abbrev base0 : ℕ := 160000 * (i 0).val

/-- What the subcore stages of the node numbers and of the values: 640 edges from the `b`-th of its own, its eight columns. -/
abbrev chI (b : ℕ) : S5x8x128.Idx → BitVec 32 := chunk I (i 1).val (base0 i + b)
abbrev chX (b : ℕ) : S5x8x128.Idx → F .f32 := chunk X (i 1).val (base0 i + b)

section Defs
variable (Ai : Memref sig .scVector .hbm S128x320000 .i32) (As : Memref sig .scVector .hbm S128x320000 .f32)
  (Bi : Memref sig .scVector .vmem S5x8x128 .i32) (Bs : Memref sig .scVector .vmem S5x8x128 .f32) (smi sms : DmaSem sig)

/-- Reading rights on the two transposed arrays. -/
def reads : sProp 𝕄 := iprop(RO (thr d i) Ai I ∗ RO (thr d i) As X)

/-- A pair with nothing in flight. -/
def idle : sProp 𝕄 :=
  iprop(((∃ Y, owns (thr d i) Bi fullShare Y) ∗ semVal ((thr d i), .dma smi) 0)
    ∗ ((∃ Y : S5x8x128.Idx → F .f32, owns (thr d i) Bs fullShare Y) ∗ semVal ((thr d i), .dma sms) 0))

/-- A pair being filled with the chunk from `b`: `j` and `j'` transfers started. -/
def fill (b j j' : ℕ) : sProp 𝕄 :=
  iprop(Filling (F := F) (e := .i32) (thr d i) Bi smi (chI i I b) j ∗ Filling (F := F) (e := .f32) (thr d i) Bs sms (chX i X b) j' ∗ reads d i I X Ai As)

/-- A pair whose chunk from `b` is all in flight, `u` and `u'` waits done. -/
def flying (b u u' : ℕ) : sProp 𝕄 :=
  iprop(Draining (F := F) (e := .i32) (thr d i) Bi smi (chI i I b) u ∗ Draining (F := F) (e := .f32) (thr d i) Bs sms (chX i X b) u')

variable (O : CellTallies nD τ sig (HIx 1)) (W : Waits sig (HIx 1))

/-- The thread's waits: all of its own, on top of those it came with. -/
def waits : sProp 𝕄 :=
  iprop(MayWaits (thr d i) none O ∗ ∃ W', ⌜∀ p ∈ W', p ∈ W ∨ p.2 = none⌝ ∗ owes (thr d i) O W')

/-- The same with the thread's waits. -/
def drain (b u u' : ℕ) : sProp 𝕄 := iprop(flying (F := F) d i I X Bi Bs smi sms b u u' ∗ waits (F := F) d i O W)

/-- Starting on an idle pair. -/
theorem fill_start (b : ℕ) : iprop(idle (F := F) d i Bi Bs smi sms ∗ reads d i I X Ai As) ⊢ (|={Set.univ}=> fill (F := F) d i I X Ai As Bi Bs smi sms b 0 0 : sProp 𝕄) := by
  unfold idle fill
  iintro ⟨⟨Hi, Hs⟩, HR⟩
  imod (filling_start (F := F) (e := .i32) (thr d i) Bi smi (chI i I b)) $$ Hi with Hi
  imod (filling_start (F := F) (e := .f32) (thr d i) Bs sms (chX i X b)) $$ Hs with Hs
  imodintro
  isplitl [Hi]; · iexact Hi
  isplitl [Hs]; · iexact Hs
  iexact HR

/-- All started. -/
theorem fill_done (b : ℕ) : (fill (F := F) d i I X Ai As Bi Bs smi sms b 5 5 : sProp 𝕄) ⊢ iprop(flying (F := F) d i I X Bi Bs smi sms b 0 0 ∗ reads d i I X Ai As) := by
  unfold fill flying
  iintro ⟨Hi, Hs, HR⟩
  ihave Hi := (filling_done (F := F) (e := .i32) (thr d i) Bi smi (chI i I b)) $$ Hi
  ihave Hs := (filling_done (F := F) (e := .f32) (thr d i) Bs sms (chX i X b)) $$ Hs
  isplitr [HR]
  · isplitl [Hi]; · iexact Hi
    iexact Hs
  iexact HR

/-- All landed: the pair holds the chunk. -/
theorem flying_done (b : ℕ) : (flying (F := F) d i I X Bi Bs smi sms b 5 5 : sProp 𝕄)
    ⊢ iprop((owns (Val := Elt F) (e := .i32) (thr d i) Bi fullShare (chI i I b) ∗ owns (thr d i) Bs fullShare (chX i X b)) ∗ semVal ((thr d i), .dma smi) 0 ∗ semVal ((thr d i), .dma sms) 0) := by
  unfold flying
  rw [Draining_five, Draining_five]
  iintro ⟨⟨Hi, Hsi⟩, Hs, Hss⟩
  isplitl [Hi Hs]
  · isplitl [Hi]; · iexact Hi
    iexact Hs
  isplitl [Hsi]; · iexact Hsi
  iexact Hss
end Defs

variable {Ai : Memref sig .scVector .hbm S128x320000 .i32} {As : Memref sig .scVector .hbm S128x320000 .f32}
  {Bi : Memref sig .scVector .vmem S5x8x128 .i32} {Bs : Memref sig .scVector .vmem S5x8x128 .f32} {smi sms : DmaSem sig}
  {O : CellTallies nD τ sig (HIx 1)} {W : Waits sig (HIx 1)}
  {α : Type} {Q : α → sProp (MT nD τ sig (HIx 1) (Elt F) ℕ UU ℕ)} {R : sProp (MT nD τ sig (HIx 1) (Elt F) ℕ UU ℕ)}
  {b : ℕ} {off : Fin 2 → ℕ} {off' : Fin 3 → ℕ}
  {k : PUnit → Prog (TpuEff nD τ sig (Elt F) Λ₀ (.scVector ((i 0).castLE hcore1) ((i 1).castLE hsub1))) α}

/-- Slab `g`'s elements of a chunk are the transposed array's at the slab's offset. -/
theorem chunk_slab {A : Type} (Y : S128x320000.Idx → A) (g : Fin 5) (hoff : off = ![8 * (i 1).val, base0 i + b + 128 * g.val])
    (x : S5x8x128.Idx) (hx : (x 0).val = g.val) :
    chunk Y (i 1).val (base0 i + b) x = Y (at2 (off 0 + (x 1).val) (off 1 + (x 2).val)) := by
  subst hoff
  unfold chunk
  rw [hx]
  rfl

/-- Starting the transfer of slab `g` of the node numbers. -/
theorem start_i (g : Fin 5) {j' : ℕ} {hin : ∀ a, off a + S8x128.size a ≤ S128x320000.size a} {hin' : ∀ a, off' a + S1x8x128.size a ≤ S5x8x128.size a}
    {hs : (Ai.slice (Rect.unit (s := S128x320000) off S8x128.size hin) (fun _ => rfl)).view.WordExact}
    {hd : ((Bi.slice (Rect.unit (s := S5x8x128) off' S1x8x128.size hin') (fun _ => rfl)).squeeze S8x128 squeezes_S1x8x128_S8x128).view.WordExact}
    {ht : DmaTarget.Typed (nD := nD) (p := (thr d i).2) .hbm (.dma smi) (.here ((Bi.slice (Rect.unit (s := S5x8x128) off' S1x8x128.size hin') (fun _ => rfl)).squeeze S8x128 squeezes_S1x8x128_S8x128))}
    (hoff : off = ![8 * (i 1).val, base0 i + b + 128 * g.val]) (hoff' : off' = ![g.val, 0, 0])
    (h : iprop(fill (F := F) d i I X Ai As Bi Bs smi sms b (g.val + 1) j' ∗ R) ⊢ wp frame (wpE defs₀ 𝒱₀ (thr d i) none) Set.univ (k ⟨⟩) Q) :
    iprop(fill (F := F) d i I X Ai As Bi Bs smi sms b g.val j' ∗ R)
      ⊢ wp frame (wpE defs₀ 𝒱₀ (thr d i) none) Set.univ
        (.op (.enqueueDma (Ai.slice (Rect.unit (s := S128x320000) off S8x128.size hin) (fun _ => rfl))
            (.here ((Bi.slice (Rect.unit (s := S5x8x128) off' S1x8x128.size hin') (fun _ => rfl)).squeeze S8x128 squeezes_S1x8x128_S8x128))
            (.dma smi) hs hd ht) k) Q := by
  unfold fill reads
  unfold fill reads at h
  have hr := wp_fill (F := F) (e := .i32) (defs := defs₀) (Q := Q) (thr d i) Bi smi (chI i I b) 𝒱₀ none Ai I g (off := off) (hin := hin) (hin' := hin') (hs := hs) (hd := hd) (ht := ht)
    (k := k) hoff' (chunk_slab i I g hoff)
  iintro ⟨⟨Hi, Hs, HI, HX⟩, HR⟩
  iapply hr $$ [Hi HI]
  · isplitl [Hi]; · iexact Hi
    iexact HI
  iintro ⟨Hi, HI⟩
  iapply h
  isplitr [HR]
  · isplitl [Hi]; · iexact Hi
    isplitl [Hs]; · iexact Hs
    isplitl [HI]; · iexact HI
    iexact HX
  iexact HR

/-- Starting the transfer of slab `g` of the values. -/
theorem start_s (g : Fin 5) {j : ℕ} {hin : ∀ a, off a + S8x128.size a ≤ S128x320000.size a} {hin' : ∀ a, off' a + S1x8x128.size a ≤ S5x8x128.size a}
    {hs : (As.slice (Rect.unit (s := S128x320000) off S8x128.size hin) (fun _ => rfl)).view.WordExact}
    {hd : ((Bs.slice (Rect.unit (s := S5x8x128) off' S1x8x128.size hin') (fun _ => rfl)).squeeze S8x128 squeezes_S1x8x128_S8x128).view.WordExact}
    {ht : DmaTarget.Typed (nD := nD) (p := (thr d i).2) .hbm (.dma sms) (.here ((Bs.slice (Rect.unit (s := S5x8x128) off' S1x8x128.size hin') (fun _ => rfl)).squeeze S8x128 squeezes_S1x8x128_S8x128))}
    (hoff : off = ![8 * (i 1).val, base0 i + b + 128 * g.val]) (hoff' : off' = ![g.val, 0, 0])
    (h : iprop(fill (F := F) d i I X Ai As Bi Bs smi sms b j (g.val + 1) ∗ R) ⊢ wp frame (wpE defs₀ 𝒱₀ (thr d i) none) Set.univ (k ⟨⟩) Q) :
    iprop(fill (F := F) d i I X Ai As Bi Bs smi sms b j g.val ∗ R)
      ⊢ wp frame (wpE defs₀ 𝒱₀ (thr d i) none) Set.univ
        (.op (.enqueueDma (As.slice (Rect.unit (s := S128x320000) off S8x128.size hin) (fun _ => rfl))
            (.here ((Bs.slice (Rect.unit (s := S5x8x128) off' S1x8x128.size hin') (fun _ => rfl)).squeeze S8x128 squeezes_S1x8x128_S8x128))
            (.dma sms) hs hd ht) k) Q := by
  unfold fill reads
  unfold fill reads at h
  have hr := wp_fill (F := F) (e := .f32) (defs := defs₀) (Q := Q) (thr d i) Bs sms (chX i X b) 𝒱₀ none As X g (off := off) (hin := hin) (hin' := hin') (hs := hs) (hd := hd) (ht := ht)
    (k := k) hoff' (chunk_slab i X g hoff)
  iintro ⟨⟨Hi, Hs, HI, HX⟩, HR⟩
  iapply hr $$ [Hs HX]
  · isplitl [Hs]; · iexact Hs
    iexact HX
  iintro ⟨Hs, HX⟩
  iapply h
  isplitr [HR]
  · isplitl [Hi]; · iexact Hi
    isplitl [Hs]; · iexact Hs
    isplitl [HI]; · iexact HI
    iexact HX
  iexact HR

/-- One wait of a thread of which every wait is its own. -/
theorem wait_one {e : EltTy} {B : Memref sig .scVector .vmem S5x8x128 e} {sm : DmaSem sig} {Y : S5x8x128.Idx → Elt F e} {u : ℕ} (hu : u < 5)
    {s' : Shape} {sp' : Space} {e' : EltTy} {srcw : Memref sig .scVector sp' s' e'} {hin' : ∀ a, off' a + S1x8x128.size a ≤ S5x8x128.size a}
    {hs : srcw.view.WordExact} {hd : ((B.slice (Rect.unit (s := S5x8x128) off' S1x8x128.size hin') (fun _ => rfl)).squeeze S8x128 squeezes_S1x8x128_S8x128).view.WordExact} :
    iprop(Draining (F := F) (thr d i) B sm Y u ∗ waits (F := F) d i O W)
      ⊢ iprop((iprop(Draining (F := F) (thr d i) B sm Y (u + 1) ∗ waits (F := F) d i O W) -∗ wp frame (wpE defs₀ 𝒱₀ (thr d i) none) Set.univ (k ⟨⟩) Q)
        -∗ wp frame (wpE defs₀ 𝒱₀ (thr d i) none) Set.univ
          (.op (.waitDma2 sm srcw ((B.slice (Rect.unit (s := S5x8x128) off' S1x8x128.size hin') (fun _ => rfl)).squeeze S8x128 squeezes_S1x8x128_S8x128) hs hd) k) Q) := by
  unfold waits
  iintro ⟨HD, #HM, %W', %hW, HO⟩ Hk
  have hr := wp_drain (F := F) (defs := defs₀) (Q := Q) (thr d i) B sm Y 𝒱₀ none (hu := hu) (srcw := srcw) (hin' := hin') (hs := hs) (hd := hd) (k := k) (O := O) (W := W')
  iapply hr $$ [HD HO]
  · isplitl [HD]; · iexact HD
    isplitl [HO]; · iexact HO
    iapply (MayWaits.elim (.dma sm)) $$ HM
  iintro ⟨HD, HO⟩
  iapply Hk
  isplitl [HD]; · iexact HD
  isplitr; · iexact HM
  iexists _
  isplitr
  rotate_left
  · iexact HO
  ipureintro
  intro p hp
  rcases Finset.mem_insert.mp hp with rfl | hp
  · exact Or.inr rfl
  · exact hW p hp

/-- Waiting for a slab of the node numbers. -/
theorem wait_i {u u' : ℕ} (hu : u < 5) {s' : Shape} {sp' : Space} {e' : EltTy} {srcw : Memref sig .scVector sp' s' e'} {hin' : ∀ a, off' a + S1x8x128.size a ≤ S5x8x128.size a}
    {hs : srcw.view.WordExact} {hd : ((Bi.slice (Rect.unit (s := S5x8x128) off' S1x8x128.size hin') (fun _ => rfl)).squeeze S8x128 squeezes_S1x8x128_S8x128).view.WordExact}
    (h : iprop(drain (F := F) d i I X Bi Bs smi sms O W b (u + 1) u' ∗ R) ⊢ wp frame (wpE defs₀ 𝒱₀ (thr d i) none) Set.univ (k ⟨⟩) Q) :
    iprop(drain (F := F) d i I X Bi Bs smi sms O W b u u' ∗ R)
      ⊢ wp frame (wpE defs₀ 𝒱₀ (thr d i) none) Set.univ
          (.op (.waitDma2 smi srcw ((Bi.slice (Rect.unit (s := S5x8x128) off' S1x8x128.size hin') (fun _ => rfl)).squeeze S8x128 squeezes_S1x8x128_S8x128) hs hd) k) Q := by
  unfold drain flying
  unfold drain flying at h
  iintro ⟨⟨⟨Hi, Hs⟩, HW⟩, HR⟩
  iapply (wait_one (F := F) d i (e := .i32) (k := k) (Q := Q) (hu := hu) (srcw := srcw) (hin' := hin') (hs := hs) (hd := hd)) $$ [Hi HW]
  · isplitl [Hi]; · iexact Hi
    iexact HW
  iintro ⟨Hi, HW⟩
  iapply h
  isplitr [HR]
  · isplitr [HW]
    · isplitl [Hi]; · iexact Hi
      iexact Hs
    iexact HW
  iexact HR

/-- Waiting for a slab of the values. -/
theorem wait_s {u u' : ℕ} (hu : u' < 5) {s' : Shape} {sp' : Space} {e' : EltTy} {srcw : Memref sig .scVector sp' s' e'} {hin' : ∀ a, off' a + S1x8x128.size a ≤ S5x8x128.size a}
    {hs : srcw.view.WordExact} {hd : ((Bs.slice (Rect.unit (s := S5x8x128) off' S1x8x128.size hin') (fun _ => rfl)).squeeze S8x128 squeezes_S1x8x128_S8x128).view.WordExact}
    (h : iprop(drain (F := F) d i I X Bi Bs smi sms O W b u (u' + 1) ∗ R) ⊢ wp frame (wpE defs₀ 𝒱₀ (thr d i) none) Set.univ (k ⟨⟩) Q) :
    iprop(drain (F := F) d i I X Bi Bs smi sms O W b u u' ∗ R)
      ⊢ wp frame (wpE defs₀ 𝒱₀ (thr d i) none) Set.univ
          (.op (.waitDma2 sms srcw ((Bs.slice (Rect.unit (s := S5x8x128) off' S1x8x128.size hin') (fun _ => rfl)).squeeze S8x128 squeezes_S1x8x128_S8x128) hs hd) k) Q := by
  unfold drain flying
  unfold drain flying at h
  iintro ⟨⟨⟨Hi, Hs⟩, HW⟩, HR⟩
  iapply (wait_one (F := F) d i (e := .f32) (k := k) (Q := Q) (hu := hu) (srcw := srcw) (hin' := hin') (hs := hs) (hd := hd)) $$ [Hs HW]
  · isplitl [Hs]; · iexact Hs
    iexact HW
  iintro ⟨Hs, HW⟩
  iapply h
  isplitr [HR]
  · isplitr [HW]
    · isplitl [Hi]; · iexact Hi
      iexact Hs
    iexact HW
  iexact HR

/-- A stretch with what it needs first, the rest of what the subcore holds carried along. -/
theorem seq_step {β : Type} {A B : sProp (MT nD τ sig (HIx 1) (Elt F) ℕ UU ℕ)}
    {p : Prog (TpuEff nD τ sig (Elt F) Λ₀ (.scVector ((i 0).castLE hcore1) ((i 1).castLE hsub1))) β}
    {q : β → Prog (TpuEff nD τ sig (Elt F) Λ₀ (.scVector ((i 0).castLE hcore1) ((i 1).castLE hsub1))) α}
    (hp : A ⊢ wp frame (wpE defs₀ 𝒱₀ (thr d i) none) Set.univ p (fun _ => B))
    (h : ∀ x, iprop(B ∗ R) ⊢ wp frame (wpE defs₀ 𝒱₀ (thr d i) none) Set.univ (q x) Q) :
    iprop(A ∗ R) ⊢ wp frame (wpE defs₀ 𝒱₀ (thr d i) none) Set.univ (p >>= q) Q := by
  rw [wp_bind]
  iintro ⟨HA, HR⟩
  ihave Hp := hp $$ HA
  iapply (wp_wand_r frame (wpE (defs₀ (F := F)) 𝒱₀ (thr d i) none) Set.univ)
  isplitl [Hp]; · iexact Hp
  iintro %x HB
  iapply (h x)
  isplitl [HB]; · iexact HB
  iexact HR

/-- One stretch after another. -/
theorem seq_bind {β : Type} {A B : sProp (MT nD τ sig (HIx 1) (Elt F) ℕ UU ℕ)}
    {p : Prog (TpuEff nD τ sig (Elt F) Λ₀ (.scVector ((i 0).castLE hcore1) ((i 1).castLE hsub1))) β}
    {q : β → Prog (TpuEff nD τ sig (Elt F) Λ₀ (.scVector ((i 0).castLE hcore1) ((i 1).castLE hsub1))) α}
    (hp : A ⊢ wp frame (wpE defs₀ 𝒱₀ (thr d i) none) Set.univ p (fun _ => B))
    (h : ∀ x, B ⊢ wp frame (wpE defs₀ 𝒱₀ (thr d i) none) Set.univ (q x) Q) :
    A ⊢ wp frame (wpE defs₀ 𝒱₀ (thr d i) none) Set.univ (p >>= q) Q := by
  rw [wp_bind]
  exact hp.trans (wp_mono frame (wpE (defs₀ (F := F)) 𝒱₀ (thr d i) none) Set.univ h)

/-- The same, with what is known of the first's result. -/
theorem seq_bind' {β : Type} {φ : β → Prop} {A B : sProp (MT nD τ sig (HIx 1) (Elt F) ℕ UU ℕ)}
    {p : Prog (TpuEff nD τ sig (Elt F) Λ₀ (.scVector ((i 0).castLE hcore1) ((i 1).castLE hsub1))) β}
    {q : β → Prog (TpuEff nD τ sig (Elt F) Λ₀ (.scVector ((i 0).castLE hcore1) ((i 1).castLE hsub1))) α}
    (hp : A ⊢ wp frame (wpE defs₀ 𝒱₀ (thr d i) none) Set.univ p (fun x => iprop(⌜φ x⌝ ∗ B)))
    (h : ∀ x, φ x → B ⊢ wp frame (wpE defs₀ 𝒱₀ (thr d i) none) Set.univ (q x) Q) :
    A ⊢ wp frame (wpE defs₀ 𝒱₀ (thr d i) none) Set.univ (p >>= q) Q := by
  rw [wp_bind]
  refine hp.trans (wp_mono frame (wpE (defs₀ (F := F)) 𝒱₀ (thr d i) none) Set.univ fun x => ?_)
  iintro ⟨%hx, H⟩
  iapply (h x hx)
  iexact H

/-- Nothing left to do, the result known. -/
theorem wp_done' {φ : α → Prop} {A : sProp (MT nD τ sig (HIx 1) (Elt F) ℕ UU ℕ)} (x : α) (hx : φ x) :
    A ⊢ wp frame (wpE defs₀ 𝒱₀ (thr d i) none) Set.univ
      (.ret x : Prog (TpuEff nD τ sig (Elt F) Λ₀ (.scVector ((i 0).castLE hcore1) ((i 1).castLE hsub1))) α) (fun x => iprop(⌜φ x⌝ ∗ A)) := by
  rw [wp_ret]
  iintro H
  imodintro
  isplitr; · ipureintro; exact hx
  iexact H

/-- A change of what is held on the way. -/
theorem seq_update {A B : sProp (MT nD τ sig (HIx 1) (Elt F) ℕ UU ℕ)}
    {p : Prog (TpuEff nD τ sig (Elt F) Λ₀ (.scVector ((i 0).castLE hcore1) ((i 1).castLE hsub1))) α}
    (hA : A ⊢ |={Set.univ}=> B) (h : iprop(B ∗ R) ⊢ wp frame (wpE defs₀ 𝒱₀ (thr d i) none) Set.univ p Q) :
    iprop(A ∗ R) ⊢ wp frame (wpE defs₀ 𝒱₀ (thr d i) none) Set.univ p Q := by
  iintro ⟨HA, HR⟩
  imod hA $$ HA with HB
  iapply h
  isplitl [HB]; · iexact HB
  iexact HR

/-- Nothing left to do. -/
theorem wp_done {A : sProp (MT nD τ sig (HIx 1) (Elt F) ℕ UU ℕ)} (x : α) :
    A ⊢ wp frame (wpE defs₀ 𝒱₀ (thr d i) none) Set.univ
      (.ret x : Prog (TpuEff nD τ sig (Elt F) Λ₀ (.scVector ((i 0).castLE hcore1) ((i 1).castLE hsub1))) α) (fun _ => A) := by
  rw [wp_ret]
  iintro H
  imodintro
  iexact H

end Pair

end Cert.Proof.Edge

end
-- ==== Proof.Parts.lean ====
/-
  The parts of one trip of the subcore's main loop, each as what it does to the two pairs of staging buffers and to the
  accumulator.
-/
module

public import proofs.«01_k».proof.Proof.Steps

@[expose] public section

noncomputable section

namespace Cert.Proof.Edge

open Cert.KernelIdeal Cert.KernelIdeal.Gen
open Idealize.ShloMosaic
open Idealize.ShloMosaic.SparseCore (S V T)
open Idealize.ShloMosaic.Transfers
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The transfers' offsets, as chunk and slab -/

theorem off4_at (i : grid1.Coords) (t : Fin k1_t2_loop.trips) (g : Fin 5) :
    k1_off4 i t (BitVec.ofNat 32 (128 * g.val)) = ![8 * (i 1).val, base0 i + (1280 * t.val + 640) + 128 * g.val] :=
  (k1_off4_eq i t g).trans (by rw [show 160000 * (i 0).val + 1280 * t.val + 128 * g.val + 640 = base0 i + (1280 * t.val + 640) + 128 * g.val by unfold base0; omega])

theorem off6_at (i : grid1.Coords) (t : Fin k1_t2_loop.trips) (g : Fin 5) :
    k1_off6 i t (BitVec.ofNat 32 (128 * g.val)) = ![8 * (i 1).val, base0 i + 1280 * (t.val + 1) + 128 * g.val] :=
  (k1_off6_eq i t g).trans (by rw [show 160000 * (i 0).val + 1280 * t.val + 128 * g.val + 1280 = base0 i + 1280 * (t.val + 1) + 128 * g.val by unfold base0; omega])

section Parts

variable (d : Dev nD) (i : grid1.Coords) (arg2 : Memref sig .scVector .hbm S128x320000 .i32) (harg2 : arg2.IsWhole) (arg3 : Memref sig .scVector .hbm S128x320000 .f32) (harg3 : arg3.IsWhole) (arg4 : Memref sig .scVector .hbm S2x16x80000 .f32) (harg4 : arg4.IsWhole) (arg5 : Memref sig .scVector .vmem S80000 .f32) (harg5 : arg5.IsWhole) (arg6 : Memref sig .scVector .vmem S5x8x128 .i32) (harg6 : arg6.IsWhole) (arg7 : Memref sig .scVector .vmem S5x8x128 .i32) (harg7 : arg7.IsWhole) (arg8 : Memref sig .scVector .vmem S5x8x128 .f32) (harg8 : arg8.IsWhole) (arg9 : Memref sig .scVector .vmem S5x8x128 .f32) (harg9 : arg9.IsWhole) (arg10 arg11 arg12 arg13 v80_r0 : DmaSems sig S_)
  (I : S128x320000.Idx → BitVec 32) (X : S128x320000.Idx → F .f32)

variable {O : CellTallies nD τ sig (HIx 1)} {W : Waits sig (HIx 1)} {R : sProp (MT nD τ sig (HIx 1) (Elt F) ℕ UU ℕ)} (b : ℕ)

/-- Three waits for the first pair. -/
theorem part3_wp (v1 : BitVec 32) (k1_t2 : Fin k1_t2_loop.trips) :
    iprop(drain (F := F) d i I X arg6 arg8 arg10.sem arg12.sem O W b 0 0 ∗ R)
      ⊢ wp frame (wpE defs₀ 𝒱₀ (thr d i) none) Set.univ
          (k1_part3 (F := F) i arg2 harg2 arg3 harg3 arg4 harg4 arg5 harg5 arg6 harg6 arg7 harg7 arg8 harg8 arg9 harg9 arg10 arg11 arg12 arg13 v80_r0 v1 0#32 1#32 k1_t2)
          (fun _ => iprop(drain (F := F) d i I X arg6 arg8 arg10.sem arg12.sem O W b 2 1 ∗ R)) := by
  rw [k1_part3_eq_skeleton]; unfold k1_part3_skel
  simp only [Prog.lift, Prog.bind_op, Prog.bind_ret, Prog.pure_eq_ret]
  refine wait_i d i I X (by decide) ?_
  refine wait_s d i I X (by decide) ?_
  refine wait_i d i I X (by decide) ?_
  exact wp_done d i _

/-- Five more. -/
theorem part4_wp (v1 : BitVec 32) (k1_t2 : Fin k1_t2_loop.trips) :
    iprop(drain (F := F) d i I X arg6 arg8 arg10.sem arg12.sem O W b 2 1 ∗ R)
      ⊢ wp frame (wpE defs₀ 𝒱₀ (thr d i) none) Set.univ
          (k1_part4 (F := F) i arg2 harg2 arg3 harg3 arg4 harg4 arg5 harg5 arg6 harg6 arg7 harg7 arg8 harg8 arg9 harg9 arg10 arg11 arg12 arg13 v80_r0 k1_t2 v1)
          (fun _ => iprop(drain (F := F) d i I X arg6 arg8 arg10.sem arg12.sem O W b 4 4 ∗ R)) := by
  rw [k1_part4_eq_skeleton]; unfold k1_part4_skel
  simp only [Prog.lift, Prog.bind_op, Prog.bind_ret, Prog.pure_eq_ret]
  refine wait_s d i I X (by decide) ?_
  refine wait_i d i I X (by decide) ?_
  refine wait_s d i I X (by decide) ?_
  refine wait_i d i I X (by decide) ?_
  refine wait_s d i I X (by decide) ?_
  exact wp_done d i _

/-- The first pair's last two, and the second pair's first two transfers. -/
theorem part5_wp (v1 : BitVec 32) (k1_t2 : Fin k1_t2_loop.trips) (v82 : BitVec 32) :
    iprop(drain (F := F) d i I X arg6 arg8 arg10.sem arg12.sem O W b 4 4 ∗ fill (F := F) d i I X arg2 arg3 arg7 arg9 arg11.sem arg13.sem (1280 * k1_t2.val + 640) 0 0 ∗ R)
      ⊢ wp frame (wpE defs₀ 𝒱₀ (thr d i) none) Set.univ
          (k1_part5 (F := F) i arg2 harg2 arg3 harg3 arg4 harg4 arg5 harg5 arg6 harg6 arg7 harg7 arg8 harg8 arg9 harg9 arg10 arg11 arg12 arg13 v80_r0 v1 k1_t2 v82)
          (fun _ => iprop(drain (F := F) d i I X arg6 arg8 arg10.sem arg12.sem O W b 5 5 ∗ fill (F := F) d i I X arg2 arg3 arg7 arg9 arg11.sem arg13.sem (1280 * k1_t2.val + 640) 1 1 ∗ R)) := by
  rw [k1_part5_eq_skeleton]; unfold k1_part5_skel
  simp only [Prog.lift, Prog.bind_op, Prog.bind_ret, Prog.pure_eq_ret]
  refine wait_i d i I X (by decide) ?_
  refine wait_s d i I X (by decide) ?_
  refine sep_left_comm.1.trans ?_
  refine start_i d i I X 0 (off4_at i k1_t2 0) rfl ?_
  refine start_s d i I X 0 (off4_at i k1_t2 0) rfl ?_
  refine sep_left_comm.1.trans ?_
  exact wp_done d i _

/-- Five more of the second pair's. -/
theorem part6_wp (v1 : BitVec 32) (k1_t2 : Fin k1_t2_loop.trips) :
    iprop(fill (F := F) d i I X arg2 arg3 arg7 arg9 arg11.sem arg13.sem (1280 * k1_t2.val + 640) 1 1 ∗ R)
      ⊢ wp frame (wpE defs₀ 𝒱₀ (thr d i) none) Set.univ
          (k1_part6 (F := F) i arg2 harg2 arg3 harg3 arg4 harg4 arg5 harg5 arg6 harg6 arg7 harg7 arg8 harg8 arg9 harg9 arg10 arg11 arg12 arg13 v80_r0 k1_t2 v1)
          (fun _ => iprop(fill (F := F) d i I X arg2 arg3 arg7 arg9 arg11.sem arg13.sem (1280 * k1_t2.val + 640) 4 3 ∗ R)) := by
  rw [k1_part6_eq_skeleton]; unfold k1_part6_skel
  simp only [Prog.lift, Prog.bind_op, Prog.bind_ret, Prog.pure_eq_ret]
  refine start_i d i I X 1 (off4_at i k1_t2 1) rfl ?_
  refine start_s d i I X 1 (off4_at i k1_t2 1) rfl ?_
  refine start_i d i I X 2 (off4_at i k1_t2 2) rfl ?_
  refine start_s d i I X 2 (off4_at i k1_t2 2) rfl ?_
  refine start_i d i I X 3 (off4_at i k1_t2 3) rfl ?_
  exact wp_done d i _

/-- The second pair's last three, and the first pair's first three slabs. -/
theorem part7_wp (hI : ∀ x, (I x).toNat < 10000) (v1 : BitVec 32) (k1_t2 : Fin k1_t2_loop.trips) :
    iprop(fill (F := F) d i I X arg2 arg3 arg7 arg9 arg11.sem arg13.sem (1280 * k1_t2.val + 640) 4 3 ∗ slabInv (F := F) d i arg5 arg6 arg8 I X (i 1).val (base0 i) b (b + 128 * 0) ∗ R)
      ⊢ wp frame (wpE defs₀ 𝒱₀ (thr d i) none) Set.univ
          (k1_part7 (F := F) i arg2 harg2 arg3 harg3 arg4 harg4 arg5 harg5 arg6 harg6 arg7 harg7 arg8 harg8 arg9 harg9 arg10 arg11 arg12 arg13 v80_r0 k1_pay17 k1_pay18 k1_pay19 k1_pay20 k1_t2 v1)
          (fun c3 => iprop(⌜c3 = 3#32⌝ ∗ slabInv (F := F) d i arg5 arg6 arg8 I X (i 1).val (base0 i) b (b + 128 * 3) ∗ fill (F := F) d i I X arg2 arg3 arg7 arg9 arg11.sem arg13.sem (1280 * k1_t2.val + 640) 5 5 ∗ R)) := by
  rw [k1_part7_eq_skeleton]; unfold k1_part7_skel
  simp only [Prog.lift, Prog.bind_op, Prog.bind_ret, Prog.pure_eq_ret]
  refine start_s d i I X 3 (off4_at i k1_t2 3) rfl ?_
  refine start_i d i I X 4 (off4_at i k1_t2 4) rfl ?_
  refine start_s d i I X 4 (off4_at i k1_t2 4) rfl ?_
  refine sep_left_comm.1.trans ?_
  refine seq_step d i (wp_slab d i arg2 harg2 arg3 harg3 arg4 harg4 arg5 harg5 arg6 harg6 arg7 harg7 arg8 harg8 arg9 harg9 arg10 arg11 arg12 arg13 v80_r0 I X hI (i 1).val (base0 i) b 0 0#32 k1_t2 rfl) fun _ => ?_
  refine seq_step d i (wp_slab d i arg2 harg2 arg3 harg3 arg4 harg4 arg5 harg5 arg6 harg6 arg7 harg7 arg8 harg8 arg9 harg9 arg10 arg11 arg12 arg13 v80_r0 I X hI (i 1).val (base0 i) b 1 0#32 k1_t2 rfl) fun _ => ?_
  refine seq_step d i (wp_slab d i arg2 harg2 arg3 harg3 arg4 harg4 arg5 harg5 arg6 harg6 arg7 harg7 arg8 harg8 arg9 harg9 arg10 arg11 arg12 arg13 v80_r0 I X hI (i 1).val (base0 i) b 2 0#32 k1_t2 rfl) fun _ => ?_
  exact wp_done' d i _ rfl

/-- The first pair's last two slabs, and the first three waits for the second pair. -/
theorem part8_wp (hI : ∀ x, (I x).toNat < 10000) (v1 : BitVec 32) (k1_t2 : Fin k1_t2_loop.trips) (v82 : BitVec 32) {b' : ℕ} :
    iprop(slabInv (F := F) d i arg5 arg6 arg8 I X (i 1).val (base0 i) b (b + 128 * 3) ∗ drain (F := F) d i I X arg7 arg9 arg11.sem arg13.sem O W b' 0 0 ∗ R)
      ⊢ wp frame (wpE defs₀ 𝒱₀ (thr d i) none) Set.univ
          (k1_part8 (F := F) i arg2 harg2 arg3 harg3 arg4 harg4 arg5 harg5 arg6 harg6 arg7 harg7 arg8 harg8 arg9 harg9 arg10 arg11 arg12 arg13 v80_r0 v1 k1_pay17 k1_pay18 k1_pay19 k1_pay20 k1_t2 v82 3#32)
          (fun _ => iprop(drain (F := F) d i I X arg7 arg9 arg11.sem arg13.sem O W b' 2 1 ∗ slabInv (F := F) d i arg5 arg6 arg8 I X (i 1).val (base0 i) b (b + 128 * 5) ∗ R)) := by
  rw [k1_part8_eq_skeleton]; unfold k1_part8_skel
  simp only [Prog.lift, Prog.bind_op, Prog.bind_ret, Prog.pure_eq_ret]
  refine seq_step d i (wp_slab d i arg2 harg2 arg3 harg3 arg4 harg4 arg5 harg5 arg6 harg6 arg7 harg7 arg8 harg8 arg9 harg9 arg10 arg11 arg12 arg13 v80_r0 I X hI (i 1).val (base0 i) b 3 0#32 k1_t2 rfl) fun _ => ?_
  refine seq_step d i (wp_slab d i arg2 harg2 arg3 harg3 arg4 harg4 arg5 harg5 arg6 harg6 arg7 harg7 arg8 harg8 arg9 harg9 arg10 arg11 arg12 arg13 v80_r0 I X hI (i 1).val (base0 i) b 4 0#32 k1_t2 rfl) fun _ => ?_
  refine sep_left_comm.1.trans ?_
  refine wait_i d i I X (by decide) ?_
  refine wait_s d i I X (by decide) ?_
  refine wait_i d i I X (by decide) ?_
  exact wp_done d i _

/-- Four more. -/
theorem part9_wp (v1 : BitVec 32) (k1_t2 : Fin k1_t2_loop.trips) :
    iprop(drain (F := F) d i I X arg7 arg9 arg11.sem arg13.sem O W b 2 1 ∗ R)
      ⊢ wp frame (wpE defs₀ 𝒱₀ (thr d i) none) Set.univ
          (k1_part9 (F := F) i arg2 harg2 arg3 harg3 arg4 harg4 arg5 harg5 arg6 harg6 arg7 harg7 arg8 harg8 arg9 harg9 arg10 arg11 arg12 arg13 v80_r0 k1_t2 v1)
          (fun _ => iprop(drain (F := F) d i I X arg7 arg9 arg11.sem arg13.sem O W b 4 3 ∗ R)) := by
  rw [k1_part9_eq_skeleton]; unfold k1_part9_skel
  simp only [Prog.lift, Prog.bind_op, Prog.bind_ret, Prog.pure_eq_ret]
  refine wait_s d i I X (by decide) ?_
  refine wait_i d i I X (by decide) ?_
  refine wait_s d i I X (by decide) ?_
  refine wait_i d i I X (by decide) ?_
  exact wp_done d i _

end Parts

end Cert.Proof.Edge

end
-- ==== Proof.Trip.lean ====
/-
  One trip of the subcore's main loop: two chunks of 640 edges, one through each pair of staging buffers, the first pair
  refilled for the next trip while the second is added in.
-/
module

public import proofs.«01_k».proof.Proof.Parts

@[expose] public section

noncomputable section

namespace Cert.Proof.Edge

open Cert.KernelIdeal Cert.KernelIdeal.Gen
open Idealize.ShloMosaic
open Idealize.ShloMosaic.SparseCore (S V T)
open Idealize.ShloMosaic.Transfers
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The refill is skipped on the last trip. -/
theorem cond1_iff : ∀ t : Fin k1_t2_loop.trips, k1_cond1 t = 1#1 ↔ t.val + 1 < 125 := by decide +kernel

/-- The first pair between two trips, `n` trips done: its next chunk in flight, if there is one. -/
def pair0 (d : Dev nD) (i : grid1.Coords) (I : S128x320000.Idx → BitVec 32) (X : S128x320000.Idx → F .f32)
    (Bi : Memref sig .scVector .vmem S5x8x128 .i32) (Bs : Memref sig .scVector .vmem S5x8x128 .f32) (smi sms : DmaSem sig) (n : ℕ) : sProp 𝕄 :=
  if n < 125 then flying (F := F) d i I X Bi Bs smi sms (1280 * n) 0 0 else idle (F := F) d i Bi Bs smi sms

section Parts

variable (d : Dev nD) (i : grid1.Coords) (arg2 : Memref sig .scVector .hbm S128x320000 .i32) (harg2 : arg2.IsWhole) (arg3 : Memref sig .scVector .hbm S128x320000 .f32) (harg3 : arg3.IsWhole) (arg4 : Memref sig .scVector .hbm S2x16x80000 .f32) (harg4 : arg4.IsWhole) (arg5 : Memref sig .scVector .vmem S80000 .f32) (harg5 : arg5.IsWhole) (arg6 : Memref sig .scVector .vmem S5x8x128 .i32) (harg6 : arg6.IsWhole) (arg7 : Memref sig .scVector .vmem S5x8x128 .i32) (harg7 : arg7.IsWhole) (arg8 : Memref sig .scVector .vmem S5x8x128 .f32) (harg8 : arg8.IsWhole) (arg9 : Memref sig .scVector .vmem S5x8x128 .f32) (harg9 : arg9.IsWhole) (arg10 arg11 arg12 arg13 v80_r0 : DmaSems sig S_)
  (I : S128x320000.Idx → BitVec 32) (X : S128x320000.Idx → F .f32)

variable {O : CellTallies nD τ sig (HIx 1)} {W : Waits sig (HIx 1)} {R : sProp (MT nD τ sig (HIx 1) (Elt F) ℕ UU ℕ)} (b : ℕ)

/-- Four of the refill's transfers. -/
theorem part1_wp (v1 : BitVec 32) (k1_t2 : Fin k1_t2_loop.trips) (v82 : BitVec 32) (h1 : k1_cond1 k1_t2 = 1#1) :
    iprop(fill (F := F) d i I X arg2 arg3 arg6 arg8 arg10.sem arg12.sem (1280 * (k1_t2.val + 1)) 0 0 ∗ R)
      ⊢ wp frame (wpE defs₀ 𝒱₀ (thr d i) none) Set.univ
          (k1_part1 (F := F) i arg2 harg2 arg3 harg3 arg4 harg4 arg5 harg5 arg6 harg6 arg7 harg7 arg8 harg8 arg9 harg9 arg10 arg11 arg12 arg13 v80_r0 v1 k1_t2 v82 h1)
          (fun _ => iprop(fill (F := F) d i I X arg2 arg3 arg6 arg8 arg10.sem arg12.sem (1280 * (k1_t2.val + 1)) 2 2 ∗ R)) := by
  rw [k1_part1_eq_skeleton]; unfold k1_part1_skel
  simp only [Prog.lift, Prog.bind_op, Prog.bind_ret, Prog.pure_eq_ret]
  refine start_i d i I X 0 (off6_at i k1_t2 0) rfl ?_
  refine start_s d i I X 0 (off6_at i k1_t2 0) rfl ?_
  refine start_i d i I X 1 (off6_at i k1_t2 1) rfl ?_
  refine start_s d i I X 1 (off6_at i k1_t2 1) rfl ?_
  exact wp_done d i _

/-- Four more. -/
theorem part2_wp (v1 : BitVec 32) (k1_t2 : Fin k1_t2_loop.trips) (h1 : k1_cond1 k1_t2 = 1#1) :
    iprop(fill (F := F) d i I X arg2 arg3 arg6 arg8 arg10.sem arg12.sem (1280 * (k1_t2.val + 1)) 2 2 ∗ R)
      ⊢ wp frame (wpE defs₀ 𝒱₀ (thr d i) none) Set.univ
          (k1_part2 (F := F) i arg2 harg2 arg3 harg3 arg4 harg4 arg5 harg5 arg6 harg6 arg7 harg7 arg8 harg8 arg9 harg9 arg10 arg11 arg12 arg13 v80_r0 k1_t2 h1 v1)
          (fun _ => iprop(fill (F := F) d i I X arg2 arg3 arg6 arg8 arg10.sem arg12.sem (1280 * (k1_t2.val + 1)) 4 4 ∗ R)) := by
  rw [k1_part2_eq_skeleton]; unfold k1_part2_skel
  simp only [Prog.lift, Prog.bind_op, Prog.bind_ret, Prog.pure_eq_ret]
  refine start_i d i I X 2 (off6_at i k1_t2 2) rfl ?_
  refine start_s d i I X 2 (off6_at i k1_t2 2) rfl ?_
  refine start_i d i I X 3 (off6_at i k1_t2 3) rfl ?_
  refine start_s d i I X 3 (off6_at i k1_t2 3) rfl ?_
  exact wp_done d i _

/-- A chunk landed and the accumulator make the state its first slab starts from. -/
theorem landed {Bi : Memref sig .scVector .vmem S5x8x128 .i32} {Bs : Memref sig .scVector .vmem S5x8x128 .f32} {smi sms : DmaSem sig} :
    iprop(drain (F := F) d i I X Bi Bs smi sms O W b 5 5 ∗ owns (thr d i) arg5 fullShare (acc I X (i 1).val (base0 i) (b + 128 * 0)) ∗ R)
      ⊢ iprop(slabInv (F := F) d i arg5 Bi Bs I X (i 1).val (base0 i) b (b + 128 * 0)
          ∗ (semVal ((thr d i), .dma smi) 0 ∗ semVal ((thr d i), .dma sms) 0) ∗ waits (F := F) d i O W ∗ R) := by
  unfold drain slabInv
  iintro ⟨⟨HF, HW⟩, HA, HR⟩
  ihave HF := (flying_done d i I X Bi Bs smi sms b) $$ HF
  icases HF with ⟨⟨Hi, Hs⟩, HS⟩
  isplitl [Hi Hs HA]
  · isplitl [Hi]; · iexact Hi
    isplitl [Hs]; · iexact Hs
    iexact HA
  isplitl [HS]; · iexact HS
  isplitl [HW]; · iexact HW
  iexact HR

/-- The last slab added leaves the pair idle and the accumulator five slabs on. -/
theorem added {Bi : Memref sig .scVector .vmem S5x8x128 .i32} {Bs : Memref sig .scVector .vmem S5x8x128 .f32} {smi sms : DmaSem sig} :
    iprop(slabInv (F := F) d i arg5 Bi Bs I X (i 1).val (base0 i) b (b + 128 * 5)
          ∗ (semVal ((thr d i), .dma smi) 0 ∗ semVal ((thr d i), .dma sms) 0) ∗ R)
      ⊢ iprop(idle (F := F) d i Bi Bs smi sms ∗ owns (thr d i) arg5 fullShare (acc I X (i 1).val (base0 i) (b + 128 * 5)) ∗ R) := by
  unfold idle slabInv
  iintro ⟨⟨Hi, Hs, HA⟩, ⟨Hsi, Hss⟩, HR⟩
  isplitl [Hi Hs Hsi Hss]
  · isplitl [Hi Hsi]
    · isplitl [Hi]; · iexists _; iexact Hi
      iexact Hsi
    · isplitl [Hs]; · iexists _; iexact Hs
      iexact Hss
  isplitl [HA]; · iexact HA
  iexact HR

/-- The second pair's last three waits; the first pair refilled, unless the trip is the last; and the second pair's first three slabs. -/
theorem part10_wp (hI : ∀ x, (I x).toNat < 10000) (v1 : BitVec 32) (k1_t2 : Fin k1_t2_loop.trips) (v81 v82 v230 : BitVec 32) :
    iprop(drain (F := F) d i I X arg7 arg9 arg11.sem arg13.sem O W b 4 3 ∗ owns (thr d i) arg5 fullShare (acc I X (i 1).val (base0 i) (b + 128 * 0)) ∗ (idle (F := F) d i arg6 arg8 arg10.sem arg12.sem ∗ reads d i I X arg2 arg3) ∗ R)
      ⊢ wp frame (wpE defs₀ 𝒱₀ (thr d i) none) Set.univ
          (k1_part10 (F := F) i arg2 harg2 arg3 harg3 arg4 harg4 arg5 harg5 arg6 harg6 arg7 harg7 arg8 harg8 arg9 harg9 arg10 arg11 arg12 arg13 v80_r0 v1 k1_pay17 k1_pay18 k1_pay19 k1_pay20 k1_t2 v81 v82 v230)
          (fun _ => iprop(slabInv (F := F) d i arg5 arg7 arg9 I X (i 1).val (base0 i) b (b + 128 * 3) ∗ (pair0 (F := F) d i I X arg6 arg8 arg10.sem arg12.sem (k1_t2.val + 1) ∗ reads d i I X arg2 arg3) ∗ (semVal ((thr d i), .dma arg11.sem) 0 ∗ semVal ((thr d i), .dma arg13.sem) 0) ∗ waits (F := F) d i O W ∗ R)) := by
  rw [k1_part10_eq_skeleton]; unfold k1_part10_skel
  simp only [Prog.lift, Prog.bind_op, Prog.bind_ret, Prog.pure_eq_ret]
  refine wait_s d i I X (by decide) ?_
  refine wait_i d i I X (by decide) ?_
  refine wait_s d i I X (by decide) ?_
  refine (landed d i arg5 I X b).trans ?_
  by_cases hc : k1_cond1 k1_t2 = 1#1
  · rw [dif_pos hc]
    refine (show _ ⊢ iprop((idle (F := F) d i arg6 arg8 arg10.sem arg12.sem ∗ reads d i I X arg2 arg3) ∗ slabInv (F := F) d i arg5 arg7 arg9 I X (i 1).val (base0 i) b (b + 128 * 0) ∗ (semVal ((thr d i), .dma arg11.sem) 0 ∗ semVal ((thr d i), .dma arg13.sem) 0) ∗ waits (F := F) d i O W ∗ R) from ?_).trans ?_
    · iintro ⟨HL, HS, HW, HI, HR⟩
      isplitl [HI]; · iexact HI
      isplitl [HL]; · iexact HL
      isplitl [HS]; · iexact HS
      isplitl [HW]; · iexact HW
      iexact HR
    refine seq_update d i (fill_start d i I X arg2 arg3 arg6 arg8 arg10.sem arg12.sem (1280 * (k1_t2.val + 1))) ?_
    refine seq_bind d i (part1_wp d i arg2 harg2 arg3 harg3 arg4 harg4 arg5 harg5 arg6 harg6 arg7 harg7 arg8 harg8 arg9 harg9 arg10 arg11 arg12 arg13 v80_r0 I X v1 k1_t2 v82 hc) fun v311 => ?_
    refine seq_bind d i (part2_wp d i arg2 harg2 arg3 harg3 arg4 harg4 arg5 harg5 arg6 harg6 arg7 harg7 arg8 harg8 arg9 harg9 arg10 arg11 arg12 arg13 v80_r0 I X v311 k1_t2 hc) fun _ => ?_
    refine start_i d i I X 4 (off6_at i k1_t2 4) rfl ?_
    refine start_s d i I X 4 (off6_at i k1_t2 4) rfl ?_
    refine (show _ ⊢ iprop(slabInv (F := F) d i arg5 arg7 arg9 I X (i 1).val (base0 i) b (b + 128 * 0) ∗ (pair0 (F := F) d i I X arg6 arg8 arg10.sem arg12.sem (k1_t2.val + 1) ∗ reads d i I X arg2 arg3) ∗ (semVal ((thr d i), .dma arg11.sem) 0 ∗ semVal ((thr d i), .dma arg13.sem) 0) ∗ waits (F := F) d i O W ∗ R) from ?_).trans ?_
    · unfold pair0
      rw [if_pos ((cond1_iff k1_t2).1 hc)]
      iintro ⟨HF, HL, HS, HW, HR⟩
      ihave HF := (show fill (F := F) d i I X arg2 arg3 arg6 arg8 arg10.sem arg12.sem (1280 * (k1_t2.val + 1)) ((4 : Fin 5).val + 1) ((4 : Fin 5).val + 1) ⊢ _ from
        fill_done d i I X arg2 arg3 arg6 arg8 arg10.sem arg12.sem (1280 * (k1_t2.val + 1))) $$ HF
      isplitl [HL]; · iexact HL
      isplitl [HF]; · iexact HF
      isplitl [HS]; · iexact HS
      isplitl [HW]; · iexact HW
      iexact HR
    refine seq_step d i (wp_slab d i arg2 harg2 arg3 harg3 arg4 harg4 arg5 harg5 arg7 harg7 arg6 harg6 arg9 harg9 arg8 harg8 arg10 arg11 arg12 arg13 v80_r0 I X hI (i 1).val (base0 i) b 0 0#32 k1_t2 rfl) fun _ => ?_
    refine seq_step d i (wp_slab d i arg2 harg2 arg3 harg3 arg4 harg4 arg5 harg5 arg7 harg7 arg6 harg6 arg9 harg9 arg8 harg8 arg10 arg11 arg12 arg13 v80_r0 I X hI (i 1).val (base0 i) b 1 0#32 k1_t2 rfl) fun _ => ?_
    refine seq_step d i (wp_slab d i arg2 harg2 arg3 harg3 arg4 harg4 arg5 harg5 arg7 harg7 arg6 harg6 arg9 harg9 arg8 harg8 arg10 arg11 arg12 arg13 v80_r0 I X hI (i 1).val (base0 i) b 2 0#32 k1_t2 rfl) fun _ => ?_
    exact wp_done d i _
  · rw [dif_neg hc]
    refine (show _ ⊢ iprop(slabInv (F := F) d i arg5 arg7 arg9 I X (i 1).val (base0 i) b (b + 128 * 0) ∗ (pair0 (F := F) d i I X arg6 arg8 arg10.sem arg12.sem (k1_t2.val + 1) ∗ reads d i I X arg2 arg3) ∗ (semVal ((thr d i), .dma arg11.sem) 0 ∗ semVal ((thr d i), .dma arg13.sem) 0) ∗ waits (F := F) d i O W ∗ R) from ?_).trans ?_
    · unfold pair0
      rw [if_neg fun h => hc ((cond1_iff k1_t2).2 h)]
      iintro ⟨HL, HS, HW, HI, HR⟩
      isplitl [HL]; · iexact HL
      isplitl [HI]; · iexact HI
      isplitl [HS]; · iexact HS
      isplitl [HW]; · iexact HW
      iexact HR
    refine seq_step d i (wp_slab d i arg2 harg2 arg3 harg3 arg4 harg4 arg5 harg5 arg7 harg7 arg6 harg6 arg9 harg9 arg8 harg8 arg10 arg11 arg12 arg13 v80_r0 I X hI (i 1).val (base0 i) b 0 0#32 k1_t2 rfl) fun _ => ?_
    refine seq_step d i (wp_slab d i arg2 harg2 arg3 harg3 arg4 harg4 arg5 harg5 arg7 harg7 arg6 harg6 arg9 harg9 arg8 harg8 arg10 arg11 arg12 arg13 v80_r0 I X hI (i 1).val (base0 i) b 1 0#32 k1_t2 rfl) fun _ => ?_
    refine seq_step d i (wp_slab d i arg2 harg2 arg3 harg3 arg4 harg4 arg5 harg5 arg7 harg7 arg6 harg6 arg9 harg9 arg8 harg8 arg10 arg11 arg12 arg13 v80_r0 I X hI (i 1).val (base0 i) b 2 0#32 k1_t2 rfl) fun _ => ?_
    exact wp_done d i _

/-- What the subcore holds between two trips, `n` trips done. -/
def tripInv (O : CellTallies nD τ sig (HIx 1)) (W : Waits sig (HIx 1)) (n : ℕ) : sProp 𝕄 :=
  iprop((pair0 (F := F) d i I X arg6 arg8 arg10.sem arg12.sem n ∗ waits (F := F) d i O W) ∗ owns (thr d i) arg5 fullShare (acc I X (i 1).val (base0 i) (1280 * n)) ∗ reads d i I X arg2 arg3 ∗ idle (F := F) d i arg7 arg9 arg11.sem arg13.sem)

/-- One trip. -/
theorem trip_wp (hI : ∀ x, (I x).toNat < 10000) (k1_t2 : Fin k1_t2_loop.trips) (v1 : BitVec 32) :
    tripInv d i arg2 arg3 arg5 arg6 arg7 arg8 arg9 arg10 arg11 arg12 arg13 I X O W k1_t2.val
      ⊢ wp frame (wpE defs₀ 𝒱₀ (thr d i) none) Set.univ
          (k1_t2_body (F := F) i arg2 harg2 arg3 harg3 arg4 harg4 arg5 harg5 arg6 harg6 arg7 harg7 arg8 harg8 arg9 harg9 arg10 arg11 arg12 arg13 v80_r0 v1 k1_pay17 k1_pay18 k1_pay19 k1_pay20 k1_t2 ())
          (fun _ => tripInv d i arg2 arg3 arg5 arg6 arg7 arg8 arg9 arg10 arg11 arg12 arg13 I X O W (k1_t2.val + 1)) := by
  have ht : k1_t2.val < 125 := k1_t2.isLt
  unfold tripInv k1_t2_body
  simp only [Prog.bind_op, Prog.bind_ret, Prog.pure_eq_ret]
  refine (show _ ⊢ iprop(drain (F := F) d i I X arg6 arg8 arg10.sem arg12.sem O W (1280 * k1_t2.val) 0 0 ∗ owns (thr d i) arg5 fullShare (acc I X (i 1).val (base0 i) (1280 * k1_t2.val + 128 * 0)) ∗ reads d i I X arg2 arg3 ∗ idle (F := F) d i arg7 arg9 arg11.sem arg13.sem) from ?_).trans ?_
  · unfold pair0 drain
    rw [if_pos ht]
    exact .rfl
  refine seq_bind d i (part3_wp d i arg2 harg2 arg3 harg3 arg4 harg4 arg5 harg5 arg6 harg6 arg7 harg7 arg8 harg8 arg9 harg9 arg10 arg11 arg12 arg13 v80_r0 I X _ v1 k1_t2) fun ⟨v81, v82, v84⟩ => ?_
  refine seq_bind d i (part4_wp d i arg2 harg2 arg3 harg3 arg4 harg4 arg5 harg5 arg6 harg6 arg7 harg7 arg8 harg8 arg9 harg9 arg10 arg11 arg12 arg13 v80_r0 I X _ v84 k1_t2) fun _ => ?_
  refine (show _ ⊢ iprop((idle (F := F) d i arg7 arg9 arg11.sem arg13.sem ∗ reads d i I X arg2 arg3) ∗ drain (F := F) d i I X arg6 arg8 arg10.sem arg12.sem O W (1280 * k1_t2.val) 4 4 ∗ owns (thr d i) arg5 fullShare (acc I X (i 1).val (base0 i) (1280 * k1_t2.val + 128 * 0))) from ?_).trans ?_
  · iintro ⟨HD, HA, HR, HI⟩
    isplitl [HR HI]
    · isplitl [HI]; · iexact HI
      iexact HR
    isplitl [HD]; · iexact HD
    iexact HA
  refine seq_update d i (fill_start d i I X arg2 arg3 arg7 arg9 arg11.sem arg13.sem (1280 * k1_t2.val + 640)) ?_
  refine sep_left_comm.1.trans ?_
  refine seq_bind d i (part5_wp d i arg2 harg2 arg3 harg3 arg4 harg4 arg5 harg5 arg6 harg6 arg7 harg7 arg8 harg8 arg9 harg9 arg10 arg11 arg12 arg13 v80_r0 I X _ v1 k1_t2 v82) fun v152 => ?_
  refine sep_left_comm.1.trans ?_
  refine seq_bind d i (part6_wp d i arg2 harg2 arg3 harg3 arg4 harg4 arg5 harg5 arg6 harg6 arg7 harg7 arg8 harg8 arg9 harg9 arg10 arg11 arg12 arg13 v80_r0 I X v152 k1_t2) fun _ => ?_
  refine (show _ ⊢ iprop(fill (F := F) d i I X arg2 arg3 arg7 arg9 arg11.sem arg13.sem (1280 * k1_t2.val + 640) 4 3 ∗ slabInv (F := F) d i arg5 arg6 arg8 I X (i 1).val (base0 i) (1280 * k1_t2.val) ((1280 * k1_t2.val) + 128 * 0) ∗ (semVal ((thr d i), .dma arg10.sem) 0 ∗ semVal ((thr d i), .dma arg12.sem) 0) ∗ waits (F := F) d i O W) from ?_).trans ?_
  · iintro ⟨HF, HD, HA⟩
    ihave H := (landed (F := F) d i arg5 I X (O := O) (W := W) (R := iprop(emp)) (1280 * k1_t2.val)) $$ [HD HA]
    · isplitl [HD]; · iexact HD
      isplitl [HA]; · iexact HA
      iempintro
    icases H with ⟨HL, HS, HW, -⟩
    isplitl [HF]; · iexact HF
    isplitl [HL]; · iexact HL
    isplitl [HS]; · iexact HS
    iexact HW
  refine seq_bind' d i (part7_wp d i arg2 harg2 arg3 harg3 arg4 harg4 arg5 harg5 arg6 harg6 arg7 harg7 arg8 harg8 arg9 harg9 arg10 arg11 arg12 arg13 v80_r0 I X _ hI v152 k1_t2) fun c3 hc3 => ?_
  subst hc3
  refine (show _ ⊢ iprop(slabInv (F := F) d i arg5 arg6 arg8 I X (i 1).val (base0 i) (1280 * k1_t2.val) ((1280 * k1_t2.val) + 128 * 3) ∗ drain (F := F) d i I X arg7 arg9 arg11.sem arg13.sem O W (1280 * k1_t2.val + 640) 0 0 ∗ (semVal ((thr d i), .dma arg10.sem) 0 ∗ semVal ((thr d i), .dma arg12.sem) 0) ∗ reads d i I X arg2 arg3) from ?_).trans ?_
  · unfold drain
    iintro ⟨HL, HF, HS, HW⟩
    ihave HF := (fill_done d i I X arg2 arg3 arg7 arg9 arg11.sem arg13.sem (1280 * k1_t2.val + 640)) $$ HF
    icases HF with ⟨HF, HR⟩
    isplitl [HL]; · iexact HL
    isplitl [HF HW]
    · isplitl [HF]; · iexact HF
      iexact HW
    isplitl [HS]; · iexact HS
    iexact HR
  refine seq_bind d i (part8_wp d i arg2 harg2 arg3 harg3 arg4 harg4 arg5 harg5 arg6 harg6 arg7 harg7 arg8 harg8 arg9 harg9 arg10 arg11 arg12 arg13 v80_r0 I X _ hI v1 k1_t2 v82) fun v230 => ?_
  refine seq_bind d i (part9_wp d i arg2 harg2 arg3 harg3 arg4 harg4 arg5 harg5 arg6 harg6 arg7 harg7 arg8 harg8 arg9 harg9 arg10 arg11 arg12 arg13 v80_r0 I X _ v230 k1_t2) fun _ => ?_
  refine (show _ ⊢ iprop(drain (F := F) d i I X arg7 arg9 arg11.sem arg13.sem O W (1280 * k1_t2.val + 640) 4 3 ∗ owns (thr d i) arg5 fullShare (acc I X (i 1).val (base0 i) (1280 * k1_t2.val + 640 + 128 * 0)) ∗ (idle (F := F) d i arg6 arg8 arg10.sem arg12.sem ∗ reads d i I X arg2 arg3) ∗ emp) from ?_).trans ?_
  · iintro ⟨HD, HL, HS, HR⟩
    ihave H := (added (F := F) d i arg5 I X (R := iprop(emp)) (1280 * k1_t2.val)) $$ [HL HS]
    · isplitl [HL]; · iexact HL
      isplitl [HS]; · iexact HS
      iempintro
    icases H with ⟨HI, HA, -⟩
    isplitl [HD]; · iexact HD
    isplitl [HA]; · iexact HA
    isplitl [HI HR]
    · isplitl [HI]; · iexact HI
      iexact HR
    iempintro
  refine seq_bind d i (part10_wp d i arg2 harg2 arg3 harg3 arg4 harg4 arg5 harg5 arg6 harg6 arg7 harg7 arg8 harg8 arg9 harg9 arg10 arg11 arg12 arg13 v80_r0 I X _ hI v1 k1_t2 v81 v82 v230) fun _ => ?_
  refine seq_step d i (wp_slab d i arg2 harg2 arg3 harg3 arg4 harg4 arg5 harg5 arg7 harg7 arg6 harg6 arg9 harg9 arg8 harg8 arg10 arg11 arg12 arg13 v80_r0 I X hI (i 1).val (base0 i) _ 3 0#32 k1_t2 rfl) fun _ => ?_
  refine seq_step d i (wp_slab d i arg2 harg2 arg3 harg3 arg4 harg4 arg5 harg5 arg7 harg7 arg6 harg6 arg9 harg9 arg8 harg8 arg10 arg11 arg12 arg13 v80_r0 I X hI (i 1).val (base0 i) _ 4 0#32 k1_t2 rfl) fun _ => ?_
  refine (show _ ⊢ _ from ?_).trans (wp_done d i _)
  iintro ⟨HL, ⟨HP, HR⟩, HS, HW, -⟩
  ihave H := (added (F := F) d i arg5 I X (R := iprop(emp)) (1280 * k1_t2.val + 640)) $$ [HL HS]
  · isplitl [HL]; · iexact HL
    isplitl [HS]; · iexact HS
    iempintro
  icases H with ⟨HI, HA, -⟩
  isplitl [HP HW]
  · isplitl [HP]; · iexact HP
    iexact HW
  isplitl [HA]; · iexact HA
  isplitl [HR]; · iexact HR
  iexact HI
end Parts

end Cert.Proof.Edge

end
-- ==== Proof.Body.lean ====
/-
  The subcore's whole program: the first chunk started, the accumulator cleared, 125 trips, and the accumulator written out
  to the subcore's row of the result.
-/
module

public import proofs.«01_k».proof.Proof.Trip

@[expose] public section

noncomputable section

namespace Cert.Proof.Edge

open Cert.KernelIdeal Cert.KernelIdeal.Gen
open Idealize.ShloMosaic
open Idealize.ShloMosaic.SparseCore (S V T)
open Idealize.ShloMosaic.Transfers
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

theorem off1_at (i : grid1.Coords) (g : Fin 5) :
    k1_off1 i (BitVec.ofNat 32 (128 * g.val)) = ![8 * (i 1).val, base0 i + 1280 * 0 + 128 * g.val] := k1_off1_eq i g

section WriteOut

variable (d : Dev nD) (i : grid1.Coords) (arg4 : Memref sig .scVector .hbm S2x16x80000 .f32) (arg5 : Memref sig .scVector .vmem S80000 .f32) (sm : DmaSem sig)

/-- The subcore's row of the result. -/
abbrev rowOf : Memref sig .scVector .hbm S80000 .f32 :=
  (arg4.slice (Rect.unit (s := S2x16x80000) (k1_off7 i) S1x1x80000.size (k1_off7_inb i)) (fun _ => rfl)).squeeze S80000 squeezes_S1x1x80000_S80000

abbrev rowN : ℕ := (rowOf i arg4).view.dmaCredit

/-- The write-out under way, of an accumulator at `A`. -/
def writing (A : S80000.Idx → F .f32) : sProp 𝕄 :=
  iprop(∃ fs fd, ⌜arg5.view.read (Elt F) fs = A⌝ ∗ Flight EC (thr d i) (.dma sm) none (rowN i arg4)
    iprop(((rowOf i arg4).view.loc (thr d i) ↦[(rowOf i arg4).view.set]{fullShare} ((rowOf i arg4).view.write (Elt F) fd (ReadAs.same.apply (arg5.view.read (Elt F) fs)) Finset.univ))
      ∗ (arg5.view.loc (thr d i) ↦[arg5.view.set]{fullShare} fs)))

variable {arg4 arg5 sm} {α : Type} {Q : α → sProp (MT nD τ sig (HIx 1) (Elt F) ℕ UU ℕ)} {R : sProp (MT nD τ sig (HIx 1) (Elt F) ℕ UU ℕ)}
  {k : PUnit → Prog (TpuEff nD τ sig (Elt F) Λ₀ (.scVector ((i 0).castLE hcore1) ((i 1).castLE hsub1))) α}
  {O : CellTallies nD τ sig (HIx 1)} {W : Waits sig (HIx 1)} {A : S80000.Idx → F .f32}

theorem start_out {hs : arg5.view.WordExact} {hd : (rowOf i arg4).view.WordExact}
    {ht : DmaTarget.Typed (nD := nD) (p := (thr d i).2) .vmem (.dma sm) (.here (rowOf i arg4))}
    (h : iprop(writing (F := F) d i arg4 arg5 sm A ∗ R) ⊢ wp frame (wpE defs₀ 𝒱₀ (thr d i) none) Set.univ (k ⟨⟩) Q) :
    iprop((owns (thr d i) arg5 fullShare A ∗ (∃ Y, owns (thr d i) (rowOf i arg4) fullShare Y) ∗ semVal ((thr d i), .dma sm) 0) ∗ R)
      ⊢ wp frame (wpE defs₀ 𝒱₀ (thr d i) none) Set.univ (.op (.enqueueDma arg5 (.here (rowOf i arg4)) (.dma sm) hs hd ht) k) Q := by
  unfold writing at h
  iintro ⟨⟨HA, ⟨%Y, HY⟩, HS⟩, HR⟩
  unfold owns
  icases HA with ⟨%fs, %hfs, HA⟩
  icases HY with ⟨%fd, -, HY⟩
  have hr := wp_dmaLocal (defs := defs₀) (Q := Q) EC 𝒱₀ (thr d i) none (src := arg5) (dst := rowOf i arg4) (via := .same) (sm := .dma sm)
    (hsrc := hs) (hdst := hd) (hsem := ht) (k := k) (q := fullShare) (fs := fs) (fd := fd) (Sd := (rowOf i arg4).view.set)
    (none : HIx 1) (rowN i arg4) rfl (View.dmaCredit_pos _ (by decide)) (le_refl _)
  iapply hr $$ [HA HY HS]
  · isplitl [HA]; · iexact HA
    isplitl [HY]; · iexact HY
    iexact HS
  iintro HF
  iapply h
  isplitr [HR]
  · iexists fs; iexists fd
    isplitr; · ipureintro; exact hfs
    iexact HF
  iexact HR

theorem wait_out {hs : arg5.view.WordExact} {hd : (rowOf i arg4).view.WordExact}
    (h : iprop((owns (thr d i) arg5 fullShare A ∗ owns (thr d i) (rowOf i arg4) fullShare A ∗ semVal ((thr d i), .dma sm) 0) ∗ waits (F := F) d i O W ∗ R)
      ⊢ wp frame (wpE defs₀ 𝒱₀ (thr d i) none) Set.univ (k ⟨⟩) Q) :
    iprop(writing (F := F) d i arg4 arg5 sm A ∗ waits (F := F) d i O W ∗ R)
      ⊢ wp frame (wpE defs₀ 𝒱₀ (thr d i) none) Set.univ (.op (.waitDma2 sm arg5 (rowOf i arg4) hs hd) k) Q := by
  unfold writing waits
  unfold waits at h
  iintro ⟨⟨%fs, %fd, %hfs, HF⟩, ⟨#HM, %W', %hW, HO⟩, HR⟩
  have hr := wp_waitLocalO (defs := defs₀) (Q := Q) EC 𝒱₀ (thr d i) none (sem := sm) (srcw := arg5) (dstw := rowOf i arg4) (hsrc := hs) (hdst := hd) (k := k)
    (none : HIx 1) (N := rowN i arg4) rfl (O := O) (W := W')
    (D := iprop(((rowOf i arg4).view.loc (thr d i) ↦[(rowOf i arg4).view.set]{fullShare} ((rowOf i arg4).view.write (Elt F) fd (ReadAs.same.apply (arg5.view.read (Elt F) fs)) Finset.univ))
      ∗ (arg5.view.loc (thr d i) ↦[arg5.view.set]{fullShare} fs)))
  iapply hr $$ [HF HO]
  · isplitl [HF]; · iexact HF
    isplitl [HO]; · iexact HO
    iapply (MayWaits.elim (.dma sm)) $$ HM
  iintro ⟨⟨HY, HA⟩, HS, HO⟩
  iapply h
  isplitl [HA HY HS]
  · unfold owns
    isplitl [HA]
    · iexists fs
      isplitr; · ipureintro; exact hfs
      iexact HA
    isplitl [HY]
    · iexists (rowOf i arg4).view.write (Elt F) fd (ReadAs.same.apply (arg5.view.read (Elt F) fs)) Finset.univ
      isplitr
      · ipureintro
        funext x
        rw [View.read_write_of_mem _ _ (Finset.mem_univ x), ← hfs]
      iexact HY
    iexact HS
  isplitr [HR]
  · isplitr; · iexact HM
    iexists _
    isplitr
    rotate_left
    · iexact HO
    ipureintro
    intro p hp
    rcases Finset.mem_insert.mp hp with rfl | hp
    · exact Or.inr rfl
    · exact hW p hp
  iexact HR

end WriteOut

section Parts

variable (d : Dev nD) (i : grid1.Coords) (arg2 : Memref sig .scVector .hbm S128x320000 .i32) (harg2 : arg2.IsWhole) (arg3 : Memref sig .scVector .hbm S128x320000 .f32) (harg3 : arg3.IsWhole) (arg4 : Memref sig .scVector .hbm S2x16x80000 .f32) (harg4 : arg4.IsWhole) (arg5 : Memref sig .scVector .vmem S80000 .f32) (harg5 : arg5.IsWhole) (arg6 : Memref sig .scVector .vmem S5x8x128 .i32) (harg6 : arg6.IsWhole) (arg7 : Memref sig .scVector .vmem S5x8x128 .i32) (harg7 : arg7.IsWhole) (arg8 : Memref sig .scVector .vmem S5x8x128 .f32) (harg8 : arg8.IsWhole) (arg9 : Memref sig .scVector .vmem S5x8x128 .f32) (harg9 : arg9.IsWhole) (arg10 arg11 arg12 arg13 v80_r0 : DmaSems sig S_)
  (I : S128x320000.Idx → BitVec 32) (X : S128x320000.Idx → F .f32)

variable {O : CellTallies nD τ sig (HIx 1)} {W : Waits sig (HIx 1)} {R : sProp (MT nD τ sig (HIx 1) (Elt F) ℕ UU ℕ)} (b : ℕ)

/-- The first chunk's first two transfers, and the constants. -/
theorem part11_wp :
    iprop(fill (F := F) d i I X arg2 arg3 arg6 arg8 arg10.sem arg12.sem (1280 * 0) 0 0 ∗ R)
      ⊢ wp frame (wpE defs₀ 𝒱₀ (thr d i) none) Set.univ
          (k1_part11 (F := F) i arg2 harg2 arg3 harg3 arg4 harg4 arg5 harg5 arg6 harg6 arg7 harg7 arg8 harg8 arg9 harg9 arg10 arg11 arg12 arg13 v80_r0 )
          (fun x => iprop(⌜x.2.1 = k1_pay17 ∧ x.2.2.1 = k1_pay18 ∧ x.2.2.2.1 = k1_pay19 ∧ x.2.2.2.2.1 = k1_pay20 ∧ x.2.2.2.2.2.1 = k1_pay21 (F := F)⌝ ∗ fill (F := F) d i I X arg2 arg3 arg6 arg8 arg10.sem arg12.sem (1280 * 0) 1 1 ∗ R)) := by
  rw [k1_part11_eq_skeleton]; unfold k1_part11_skel
  simp only [Prog.lift, Prog.bind_op, Prog.bind_ret, Prog.pure_eq_ret]
  refine start_i d i I X 0 (off1_at i 0) rfl ?_
  refine start_s d i I X 0 (off1_at i 0) rfl ?_
  exact wp_done' d i _ ⟨rfl, rfl, rfl, rfl, rfl⟩

/-- Five more. -/
theorem part12_wp (v12 : BitVec 32) :
    iprop(fill (F := F) d i I X arg2 arg3 arg6 arg8 arg10.sem arg12.sem (1280 * 0) 1 1 ∗ R)
      ⊢ wp frame (wpE defs₀ 𝒱₀ (thr d i) none) Set.univ
          (k1_part12 (F := F) i arg2 harg2 arg3 harg3 arg4 harg4 arg5 harg5 arg6 harg6 arg7 harg7 arg8 harg8 arg9 harg9 arg10 arg11 arg12 arg13 v80_r0 v12)
          (fun _ => iprop(fill (F := F) d i I X arg2 arg3 arg6 arg8 arg10.sem arg12.sem (1280 * 0) 4 3 ∗ R)) := by
  rw [k1_part12_eq_skeleton]; unfold k1_part12_skel
  simp only [Prog.lift, Prog.bind_op, Prog.bind_ret, Prog.pure_eq_ret]
  refine start_i d i I X 1 (off1_at i 1) rfl ?_
  refine start_s d i I X 1 (off1_at i 1) rfl ?_
  refine start_i d i I X 2 (off1_at i 2) rfl ?_
  refine start_s d i I X 2 (off1_at i 2) rfl ?_
  refine start_i d i I X 3 (off1_at i 3) rfl ?_
  exact wp_done d i _

/-- The 125 trips. -/
theorem trips_wp (hI : ∀ x, (I x).toNat < 10000) (v1 : BitVec 32) :
    tripInv d i arg2 arg3 arg5 arg6 arg7 arg8 arg9 arg10 arg11 arg12 arg13 I X O W 0
      ⊢ wp frame (wpE defs₀ 𝒱₀ (thr d i) none) Set.univ
          (Scf.Loop.for k1_t2_loop k1_t2_ok ⟨⟩ (k1_t2_body (F := F) i arg2 harg2 arg3 harg3 arg4 harg4 arg5 harg5 arg6 harg6 arg7 harg7 arg8 harg8 arg9 harg9 arg10 arg11 arg12 arg13 v80_r0 v1 k1_pay17 k1_pay18 k1_pay19 k1_pay20))
          (fun _ => tripInv d i arg2 arg3 arg5 arg6 arg7 arg8 arg9 arg10 arg11 arg12 arg13 I X O W 125) := by
  have hr := Scf.wp_for frame (wpE (defs₀ (F := F)) 𝒱₀ (thr d i) none) Set.univ _ _ _ k1_t2_ok PUnit.unit
    (k1_t2_body (F := F) i arg2 harg2 arg3 harg3 arg4 harg4 arg5 harg5 arg6 harg6 arg7 harg7 arg8 harg8 arg9 harg9 arg10 arg11 arg12 arg13 v80_r0 v1 k1_pay17 k1_pay18 k1_pay19 k1_pay20)
    (fun t _ => tripInv d i arg2 arg3 arg5 arg6 arg7 arg8 arg9 arg10 arg11 arg12 arg13 I X O W t)
    (fun t _ => trip_wp d i arg2 harg2 arg3 harg3 arg4 harg4 arg5 harg5 arg6 harg6 arg7 harg7 arg8 harg8 arg9 harg9 arg10 arg11 arg12 arg13 v80_r0 I X hI t v1)
    (Q := fun _ => tripInv d i arg2 arg3 arg5 arg6 arg7 arg8 arg9 arg10 arg11 arg12 arg13 I X O W 125)
  iintro H
  iapply hr
  isplitl [H]; · iexact H
  iintro %_ H
  iexact H

/-- All but the last wait. -/
theorem part13_wp (hI : ∀ x, (I x).toNat < 10000) :
    iprop((idle (F := F) d i arg6 arg8 arg10.sem arg12.sem ∗ reads d i I X arg2 arg3) ∗ (∃ Y : S80000.Idx → F .f32, owns (thr d i) arg5 fullShare Y) ∗ idle (F := F) d i arg7 arg9 arg11.sem arg13.sem ∗ waits (F := F) d i O W ∗ (∃ Y, owns (thr d i) (rowOf i arg4) fullShare Y) ∗ semVal ((thr d i), .dma v80_r0.sem) 0)
      ⊢ wp frame (wpE defs₀ 𝒱₀ (thr d i) none) Set.univ
          (k1_part13 (F := F) i arg2 harg2 arg3 harg3 arg4 harg4 arg5 harg5 arg6 harg6 arg7 harg7 arg8 harg8 arg9 harg9 arg10 arg11 arg12 arg13 v80_r0 )
          (fun _ => iprop(writing d i arg4 arg5 v80_r0.sem (acc I X (i 1).val (base0 i) 160000) ∗ waits (F := F) d i O W ∗ (idle (F := F) d i arg6 arg8 arg10.sem arg12.sem ∗ reads d i I X arg2 arg3) ∗ idle (F := F) d i arg7 arg9 arg11.sem arg13.sem)) := by
  rw [k1_part13_eq_skeleton]; unfold k1_part13_skel
  simp only [Prog.lift, Prog.bind_op, Prog.bind_ret, Prog.pure_eq_ret]
  refine seq_update d i (fill_start d i I X arg2 arg3 arg6 arg8 arg10.sem arg12.sem (1280 * 0)) ?_
  refine seq_bind' d i (part11_wp d i arg2 harg2 arg3 harg3 arg4 harg4 arg5 harg5 arg6 harg6 arg7 harg7 arg8 harg8 arg9 harg9 arg10 arg11 arg12 arg13 v80_r0 I X) fun ⟨v1, v4, v6, v8, v10, v11, v12⟩ hx => ?_
  obtain ⟨h4, h6, h8, h10, h11⟩ := hx
  dsimp only at h4 h6 h8 h10 h11
  subst h4 h6 h8 h10 h11
  refine seq_bind d i (part12_wp d i arg2 harg2 arg3 harg3 arg4 harg4 arg5 harg5 arg6 harg6 arg7 harg7 arg8 harg8 arg9 harg9 arg10 arg11 arg12 arg13 v80_r0 I X v12) fun _ => ?_
  refine start_s d i I X 3 (off1_at i 3) rfl ?_
  refine start_i d i I X 4 (off1_at i 4) rfl ?_
  refine start_s d i I X 4 (off1_at i 4) rfl ?_
  refine sep_left_comm.1.trans ?_
  refine seq_step d i (wp_zero (i 1).val (base0 i) d i arg2 harg2 arg3 harg3 arg4 harg4 arg5 harg5 arg6 harg6 arg7 harg7 arg8 harg8 arg9 harg9 arg10 arg11 arg12 arg13 v80_r0 I X) fun _ => ?_
  refine (show _ ⊢ iprop(tripInv d i arg2 arg3 arg5 arg6 arg7 arg8 arg9 arg10 arg11 arg12 arg13 I X O W 0 ∗ (∃ Y, owns (thr d i) (rowOf i arg4) fullShare Y) ∗ semVal ((thr d i), .dma v80_r0.sem) 0) from ?_).trans ?_
  · unfold tripInv pair0
    rw [if_pos (by decide)]
    iintro ⟨HA, HF, HI, HW, HY, HS⟩
    ihave HF := (show fill (F := F) d i I X arg2 arg3 arg6 arg8 arg10.sem arg12.sem (1280 * 0) ((4 : Fin 5).val + 1) ((4 : Fin 5).val + 1) ⊢ _ from
      fill_done d i I X arg2 arg3 arg6 arg8 arg10.sem arg12.sem (1280 * 0)) $$ HF
    icases HF with ⟨HF, HR⟩
    isplitr [HY HS]
    · isplitl [HF HW]
      · isplitl [HF]; · iexact HF
        iexact HW
      isplitl [HA]; · iexact HA
      isplitl [HR]; · iexact HR
      iexact HI
    isplitl [HY]; · iexact HY
    iexact HS
  refine seq_step d i (trips_wp d i arg2 harg2 arg3 harg3 arg4 harg4 arg5 harg5 arg6 harg6 arg7 harg7 arg8 harg8 arg9 harg9 arg10 arg11 arg12 arg13 v80_r0 I X hI v1) fun _ => ?_
  refine (show _ ⊢ iprop((owns (thr d i) arg5 fullShare (acc I X (i 1).val (base0 i) 160000) ∗ (∃ Y, owns (thr d i) (rowOf i arg4) fullShare Y) ∗ semVal ((thr d i), .dma v80_r0.sem) 0)
      ∗ waits (F := F) d i O W ∗ (idle (F := F) d i arg6 arg8 arg10.sem arg12.sem ∗ reads d i I X arg2 arg3) ∗ idle (F := F) d i arg7 arg9 arg11.sem arg13.sem) from ?_).trans ?_
  · unfold tripInv pair0
    rw [if_neg (by decide)]
    iintro ⟨⟨⟨HP, HW⟩, HA, HR, HI⟩, HY, HS⟩
    isplitl [HA HY HS]
    · isplitl [HA]; · iexact HA
      isplitl [HY]; · iexact HY
      iexact HS
    isplitl [HW]; · iexact HW
    isplitr [HI]
    · isplitl [HP]; · iexact HP
      iexact HR
    iexact HI
  refine start_out d i ?_
  exact wp_done d i _

/-- The subcore's program: whatever the scratch held, its row of the result ends at its edges' sums. -/
theorem body_wp (hI : ∀ x, (I x).toNat < 10000) :
    iprop((idle (F := F) d i arg6 arg8 arg10.sem arg12.sem ∗ reads d i I X arg2 arg3) ∗ (∃ Y : S80000.Idx → F .f32, owns (thr d i) arg5 fullShare Y) ∗ idle (F := F) d i arg7 arg9 arg11.sem arg13.sem ∗ waits (F := F) d i O W ∗ (∃ Y, owns (thr d i) (rowOf i arg4) fullShare Y) ∗ semVal ((thr d i), .dma v80_r0.sem) 0)
      ⊢ wp frame (wpE defs₀ 𝒱₀ (thr d i) none) Set.univ
          (cc1__sc_scatter_body (F := F) i arg2 harg2 arg3 harg3 arg4 harg4 arg5 harg5 arg6 harg6 arg7 harg7 arg8 harg8 arg9 harg9 arg10 arg11 arg12 arg13 v80_r0 )
          (fun _ => iprop((idle (F := F) d i arg6 arg8 arg10.sem arg12.sem ∗ reads d i I X arg2 arg3) ∗ (∃ Y : S80000.Idx → F .f32, owns (thr d i) arg5 fullShare Y) ∗ idle (F := F) d i arg7 arg9 arg11.sem arg13.sem ∗ waits (F := F) d i O W ∗ owns (thr d i) (rowOf i arg4) fullShare (acc I X (i 1).val (base0 i) 160000) ∗ semVal ((thr d i), .dma v80_r0.sem) 0)) := by
  rw [cc1__sc_scatter_body_eq_skeleton]; unfold cc1__sc_scatter_body_skel
  simp only [Prog.lift, Prog.bind_op, Prog.bind_ret, Prog.pure_eq_ret]
  refine seq_bind d i (part13_wp d i arg2 harg2 arg3 harg3 arg4 harg4 arg5 harg5 arg6 harg6 arg7 harg7 arg8 harg8 arg9 harg9 arg10 arg11 arg12 arg13 v80_r0 I X hI) fun _ => ?_
  refine wait_out d i ?_
  refine (show _ ⊢ _ from ?_).trans (wp_done d i _)
  iintro ⟨⟨HA, HY, HS⟩, HW, HP, HI⟩
  isplitl [HP]; · iexact HP
  isplitl [HA]; · iexists _; iexact HA
  isplitl [HI]; · iexact HI
  isplitl [HW]; · iexact HW
  isplitl [HY]; · iexact HY
  iexact HS

end Parts

end Cert.Proof.Edge

end
-- ==== Proof.Rows.lean ====
/-
  The subcores' rows of the array of partial sums: subcore `s` of SparseCore `c` writes the row `(c, s)`, the rows are apart
  and together the whole array.
-/
module

public import proofs.«01_k».proof.Proof.Body

@[expose] public section

noncomputable section

namespace Cert.Proof.Edge

open Cert.KernelIdeal Cert.KernelIdeal.Gen
open Idealize.ShloMosaic
open Idealize.ShloMosaic.SparseCore (S V T)
open Idealize.ShloMosaic.Transfers
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The three arrays the subcores work on, as a subcore names them. -/
abbrev idxV : Memref sig .scVector .hbm S128x320000 .i32 := Memref.whole main_v0_0_scv
abbrev srcV : Memref sig .scVector .hbm S128x320000 .f32 := Memref.whole main_v0_1_scv
abbrev outV : Memref sig .scVector .hbm S2x16x80000 .f32 := Memref.whole main_v1_scv

/-- The same arrays, as locations of device `d`. -/
abbrev idxLoc (d : Dev nD) : Loc nD τ sig := (SparseCore.T d).loc main_v0_0
abbrev srcLoc (d : Dev nD) : Loc nD τ sig := (SparseCore.T d).loc main_v0_1
abbrev outLoc (d : Dev nD) : Loc nD τ sig := (SparseCore.T d).loc main_v1

/-- An index of an accumulator by its position. -/
def at1 (k : Fin 80000) : S80000.Idx := fun | 0 => k

/-- The coordinates of subcore `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

/-- The rows of SparseCore `c`. -/
def halfSet (c : ℕ) : Finset S2x16x80000.Idx := Finset.univ.filter fun y => (y 0).val = c
/-- The row of one subcore. -/
def rowSet (c s : ℕ) : Finset S2x16x80000.Idx := Finset.univ.filter fun y => (y 0).val = c ∧ (y 1).val = s

/-- What the subcores leave: every row its subcore's accumulator. -/
def parts (I : S128x320000.Idx → BitVec 32) (X : S128x320000.Idx → F .f32) : S2x16x80000.Idx → F .f32 := fun y =>
  acc I X (y 1).val (160000 * (y 0).val) 160000 (at1 (y 2))

omit [FloatOps F] in
/-- The place the program writes a subcore's accumulator to is that subcore's row. -/
theorem set_rowOf (i : grid1.Coords) : (rowOf i outV).view.set = rowSet (i 0).val (i 1).val := by
  show (((outV).view.slice (Rect.unit (s := S2x16x80000) (k1_off7 i) S1x1x80000.size (k1_off7_inb i))).reshape S80000 _).set = _
  rw [View.set_reshape, View.set_slice]
  refine Finset.map_refl.trans ?_
  ext y
  rw [Rect.mem_set_unit]
  unfold rowSet
  simp only [Finset.mem_filter, Finset.mem_univ, true_and]
  rw [k1_off7_eq]
  constructor
  · intro h
    have h0 := h 0
    have h1 := h 1
    simp at h0 h1
    omega
  · rintro ⟨h0, h1⟩ a
    have h2 : (y 2).val < 80000 := (y 2).isLt
    match a with
    | 0 => simp; omega
    | 1 => simp; omega
    | 2 => simpa using h2

omit [FloatOps F] in
/-- The row's elements in order. -/
theorem rowOf_emb (i : grid1.Coords) (x : S80000.Idx) (y : S2x16x80000.Idx) (h : (rowOf i outV).view.emb x = y) : at1 (y 2) = x := by
  subst h
  have hx : Shape.reshapeEquiv (s := S1x1x80000) (s' := S80000) squeezes_S1x1x80000_S80000.numel_eq x
      = (fun | 0 => ⟨0, Nat.one_pos⟩ | 1 => ⟨0, Nat.one_pos⟩ | 2 => x 0 : S1x1x80000.Idx) := by
    refine Shape.reshapeEquiv_eq_of_rowMajor _ ?_
    refine (Shape.rowMajor_val_three _).trans (Eq.trans ?_ (Shape.rowMajor_val_one x).symm)
    show (0 * _ + 0) * _ + (x 0).val = _
    omega
  funext a
  rw [Subsingleton.elim a 0]
  apply Fin.ext
  show (((Rect.unit (s := S2x16x80000) (k1_off7 i) S1x1x80000.size (k1_off7_inb i)).emb (Shape.reshapeEquiv _ x)) 2).val = (x 0).val
  rw [hx]
  show k1_off7 i 2 + 1 * (x 0).val = _
  rw [k1_off7_eq]
  simp

/-- A subcore's row, holding its accumulator, is the row of what they leave. -/
theorem row_done (d : Dev nD) (i : grid1.Coords) (I : S128x320000.Idx → BitVec 32) (X : S128x320000.Idx → F .f32) :
    (owns (thr d i) (rowOf i outV) fullShare (acc I X (i 1).val (base0 i) 160000) : sProp 𝕄)
      ⊢ outLoc d ↦[rowSet (i 0).val (i 1).val]{fullShare} parts I X := by
  unfold owns
  iintro ⟨%f, %hf, H⟩
  have e : ((rowOf i outV).view.loc (thr d i) ↦[(rowOf i outV).view.set]{fullShare} f : sProp 𝕄)
      = outLoc d ↦[rowSet (i 0).val (i 1).val]{fullShare} parts I X := by
    rw [set_rowOf]
    refine pointsTo_congr (ℓ := outLoc d) fun y hy => ?_
    have hy' := hy
    rw [← set_rowOf] at hy'
    obtain ⟨x, -, hx⟩ := Finset.mem_map.1 hy'
    have h1 : f y = acc I X (i 1).val (base0 i) 160000 x := by
      rw [← hf, View.read_apply, hx]; exact (cast_eq _ _).symm
    have hm := (Finset.mem_filter.1 hy).2
    have h2 : at1 (y 2) = x := rowOf_emb i x y hx
    unfold parts
    rw [h2, hm.1, hm.2]
    exact h1
  ihave H := (Entails.of_eq e) $$ H
  iexact H

omit [FloatOps F] in
/-- A subcore's row at any contents, as the subcore holds it. -/
theorem row_start (d : Dev nD) (i : grid1.Coords) (f : S2x16x80000.Idx → F .f32) :
    (outLoc d ↦[rowSet (i 0).val (i 1).val]{fullShare} f : sProp 𝕄) ⊢ iprop(∃ Y, owns (thr d i) (rowOf i outV) fullShare Y) := by
  have e : (outLoc d ↦[rowSet (i 0).val (i 1).val]{fullShare} f : sProp 𝕄)
      = ((rowOf i outV).view.loc (thr d i) ↦[(rowOf i outV).view.set]{fullShare} f) := by
    rw [set_rowOf]
  rw [e]
  iintro H
  iexists _
  iapply (owns_intro (thr d i) (rowOf i outV) fullShare f); iexact H

omit [FloatOps F] in
/-- A SparseCore's rows are its subcores'. -/
theorem half_rows (d : Dev nD) (c : ℕ) (f : S2x16x80000.Idx → F .f32) :
    (outLoc d ↦[halfSet c]{fullShare} f : sProp 𝕄) = bigSep Finset.univ fun s : Fin 16 => outLoc d ↦[rowSet c s.val]{fullShare} f := by
  rw [← pointsTo_biUnion Finset.univ (ℓ := outLoc d) (fun s : Fin 16 => rowSet c s.val)]
  · refine congrArg (fun S => (outLoc d ↦[S]{fullShare} f : sProp 𝕄)) (?_ : halfSet c = _)
    ext y
    simp only [halfSet, rowSet, Finset.mem_filter, Finset.mem_biUnion, Finset.mem_univ, true_and]
    exact ⟨fun h => ⟨y 1, h, rfl⟩, fun ⟨_, h, _⟩ => h⟩
  · intro s _ s' _ hne
    refine Finset.disjoint_left.2 fun y h h' => hne (Fin.ext ?_)
    exact ((Finset.mem_filter.1 h).2.2.symm.trans (Finset.mem_filter.1 h').2.2)

omit [FloatOps F] in
/-- The array is its two SparseCores' rows. -/
theorem out_halves (d : Dev nD) (f : S2x16x80000.Idx → F .f32) :
    (outLoc d ↦{fullShare} f : sProp 𝕄) = bigSep Finset.univ fun c : Fin 2 => outLoc d ↦[halfSet c.val]{fullShare} f := by
  rw [← pointsTo_biUnion Finset.univ (ℓ := outLoc d) (fun c : Fin 2 => halfSet c.val)]
  · refine congrArg (fun S => (outLoc d ↦[S]{fullShare} f : sProp 𝕄)) (?_ : Finset.univ = _)
    ext y
    simp only [halfSet, Finset.mem_filter, Finset.mem_biUnion, Finset.mem_univ, true_and]
    exact ⟨fun _ => ⟨y 0, rfl⟩, fun _ => trivial⟩
  · intro s _ s' _ hne
    refine Finset.disjoint_left.2 fun y h h' => hne (Fin.ext ?_)
    exact ((Finset.mem_filter.1 h).2.symm.trans (Finset.mem_filter.1 h').2)

/-! ## Reading rights -/

/-- The right to read the two transposed arrays. -/
def rights (d : Dev nD) (I : S128x320000.Idx → BitVec 32) (X : S128x320000.Idx → F .f32) : sProp 𝕄 :=
  iprop((∃ q, idxLoc d ↦{q} I) ∗ ∃ q, srcLoc d ↦{q} X)

instance rights_storable (d : Dev nD) (I : S128x320000.Idx → BitVec 32) (X : S128x320000.Idx → F .f32) :
    BI.Storable (upEmb : UEmb _ 𝕄) (rights d I X) := by
  unfold rights; infer_instance

omit [FloatOps F] in
/-- The rights, as a subcore holds them. -/
theorem rights_reads (d : Dev nD) (i : grid1.Coords) (I : S128x320000.Idx → BitVec 32) (X : S128x320000.Idx → F .f32) :
    (rights d I X : sProp 𝕄) = reads (F := F) d i I X idxV srcV := by
  have h1 : ∀ q, (owns (thr d i) idxV q I : sProp 𝕄) = (idxLoc d ↦{q} I) := fun q => owns_whole (Val := Elt F) (thr d i) main_v0_0_scv q (show Buf (Elt F) (idxLoc d) from I)
  have h2 : ∀ q, (owns (thr d i) srcV q X : sProp 𝕄) = (srcLoc d ↦{q} X) := fun q => owns_whole (Val := Elt F) (thr d i) main_v0_1_scv q X
  unfold reads rights RO
  simp only [h1, h2]

omit [FloatOps F] in
/-- Rights may be given to as many as want them. -/
theorem rights_deal {α : Type} (S : Finset α) (d : Dev nD) (I : S128x320000.Idx → BitVec 32) (X : S128x320000.Idx → F .f32) :
    (rights d I X : sProp 𝕄) ⊢ bigSep S fun _ => rights d I X := by
  classical
  induction S using Finset.induction_on with
  | empty => rw [bigSep_empty]; iintro -; iempintro
  | insert a S ha ih =>
    rw [SparseCore.bigSep_insert' ha]
    have hd : (rights d I X : sProp 𝕄) ⊢ iprop(rights d I X ∗ rights d I X) := by
      rw [rights_reads d (coordsV ⟨0, by decide⟩ ⟨0, by decide⟩)]
      unfold reads
      iintro ⟨H1, H2⟩
      ihave H1 := (RO_dup _ _ _) $$ H1
      ihave H2 := (RO_dup _ _ _) $$ H2
      icases H1 with ⟨H1, K1⟩
      icases H2 with ⟨H2, K2⟩
      isplitl [H1 H2]
      · isplitl [H1]; · iexact H1
        iexact H2
      · isplitl [K1]; · iexact K1
        iexact K2
    iintro H
    ihave H := hd $$ H
    icases H with ⟨H, H'⟩
    isplitl [H]; · iexact H
    iapply ih; iexact H'

end Cert.Proof.Edge

end
-- ==== Proof.Tiles.lean ====
/-
  The SparseCore call as the launch theorem asks for it: what each SparseCore and each vector subcore is handed and gives
  back, a subcore's task, and how a SparseCore's share splits among its subcores.
-/
module

public import proofs.«01_k».proof.Proof.Rows

@[expose] public section

noncomputable section

namespace Cert.Proof.Edge

open Cert.KernelIdeal Cert.KernelIdeal.Gen
open Idealize.ShloMosaic
open Idealize.ShloMosaic.SparseCore (S V T)
open Idealize.ShloMosaic.Transfers
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

omit [FloatOps F] in
theorem nSub_zero : (K (F := F)).nSub 0 = 16 := rfl
omit [FloatOps F] in
theorem nCore_zero : (K (F := F)).nCore 0 = 2 := rfl

/-! ## What is handed over -/

variable (I : Dev nD → S128x320000.Idx → BitVec 32) (X : Dev nD → S128x320000.Idx → F .f32)

/-- What subcore `s` of SparseCore `c` starts from: the right to read the two arrays, and its row. -/
def goR (d : Dev nD) (c s : ℕ) : sProp 𝕄 := iprop(rights d (I d) (X d) ∗ ∃ f, outLoc d ↦[rowSet c s]{fullShare} f)
/-- What it gives back: its row, done. -/
def tdR (d : Dev nD) (c s : ℕ) : sProp 𝕄 := outLoc d ↦[rowSet c s]{fullShare} parts (I d) (X d)
/-- What SparseCore `c` starts from, -/
def stR (d : Dev nD) (c : ℕ) : sProp 𝕄 := iprop(rights d (I d) (X d) ∗ ∃ f, outLoc d ↦[halfSet c]{fullShare} f)
/-- and gives back. -/
def dnR (d : Dev nD) (c : ℕ) : sProp 𝕄 := outLoc d ↦[halfSet c]{fullShare} parts (I d) (X d)

instance goR_storable (d : Dev nD) (c s : ℕ) : BI.Storable (upEmb : UEmb _ 𝕄) (goR I X d c s) := by unfold goR; infer_instance
instance tdR_storable (d : Dev nD) (c s : ℕ) : BI.Storable (upEmb : UEmb _ 𝕄) (tdR I X d c s) := by unfold tdR; infer_instance
instance stR_storable (d : Dev nD) (c : ℕ) : BI.Storable (upEmb : UEmb _ 𝕄) (stR I X d c) := by unfold stR; infer_instance
instance dnR_storable (d : Dev nD) (c : ℕ) : BI.Storable (upEmb : UEmb _ 𝕄) (dnR I X d c) := by unfold dnR; infer_instance

/-- The payloads of the one call's handshakes. -/
def P : (K (F := F)).Pay (nD := nD) (Val := Elt F) (Name := ℕ) (U := UU) where
  st := fun _ d c => stR I X d c.val
  dn := fun _ d c => dnR I X d c.val
  go := fun _ d c i => goR I X d c.val i.val
  td := fun _ d c i => tdR I X d c.val i.val
  x := fun _ _ => iprop(emp)

instance P_storable : (P I X).IsStorable where
  st := fun _ d c => stR_storable I X d c.val
  dn := fun _ d c => dnR_storable I X d c.val
  go := fun _ d c i => goR_storable I X d c.val i.val
  td := fun _ d c i => tdR_storable I X d c.val i.val

/-! ## A subcore's own semaphores and buffers -/

section Tile

variable (d : Dev nD) (i : grid1.Coords)

abbrev cS (sm : DmaSems sig S_) : GSem nD τ sig := (thr d i, .dma sm.sem)

omit [FloatOps F] in
theorem cS_ne {a b : DmaSems sig S_} (h : a.sem ≠ b.sem) : cS d i a ≠ cS d i b := fun e => h (SemLoc.dma.inj (Prod.mk.inj e).2)

omit [FloatOps F] in
theorem cS_mem {a : DmaSems sig S_} (h : (SemLoc.dma a.sem : SemLoc sig).isScoped .scVector = true) : cS d i a ∈ ownCells (thr d i) :=
  (mem_ownCells (g := cS d i a)).mpr ⟨rfl, h⟩

omit [FloatOps F] in
/-- The five transfer semaphores are among the subcore's own: they, at zero, and the rest. -/
theorem ownSems0_V :
    (ownSems0 (thr d i) : sProp 𝕄)
      = iprop(semVal (cS d i cc1_scratch5) 0 ∗ semVal (cS d i cc1_scratch6) 0 ∗ semVal (cS d i cc1_scratch7) 0 ∗ semVal (cS d i cc1_scratch8) 0
          ∗ semVal (cS d i cc1_scoped0) 0
          ∗ bigSep ((((((ownCells (thr d i)).erase (cS d i cc1_scratch5)).erase (cS d i cc1_scratch6)).erase (cS d i cc1_scratch7)).erase (cS d i cc1_scratch8)).erase
              (cS d i cc1_scoped0)) fun g => semVal g 0) := by
  unfold SparseCore.Cfg.ownSems0
  rw [SparseCore.bigSep_erase' (cS_mem d i (a := cc1_scratch5) (by decide)),
    SparseCore.bigSep_erase' (Finset.mem_erase.mpr ⟨cS_ne d i (a := cc1_scratch6) (b := cc1_scratch5) (by decide), cS_mem d i (by decide)⟩),
    SparseCore.bigSep_erase' (Finset.mem_erase.mpr ⟨cS_ne d i (a := cc1_scratch7) (b := cc1_scratch6) (by decide),
      Finset.mem_erase.mpr ⟨cS_ne d i (a := cc1_scratch7) (b := cc1_scratch5) (by decide), cS_mem d i (by decide)⟩⟩),
    SparseCore.bigSep_erase' (Finset.mem_erase.mpr ⟨cS_ne d i (a := cc1_scratch8) (b := cc1_scratch7) (by decide),
      Finset.mem_erase.mpr ⟨cS_ne d i (a := cc1_scratch8) (b := cc1_scratch6) (by decide),
        Finset.mem_erase.mpr ⟨cS_ne d i (a := cc1_scratch8) (b := cc1_scratch5) (by decide), cS_mem d i (by decide)⟩⟩⟩),
    SparseCore.bigSep_erase' (Finset.mem_erase.mpr ⟨cS_ne d i (a := cc1_scoped0) (b := cc1_scratch8) (by decide),
      Finset.mem_erase.mpr ⟨cS_ne d i (a := cc1_scoped0) (b := cc1_scratch7) (by decide),
        Finset.mem_erase.mpr ⟨cS_ne d i (a := cc1_scoped0) (b := cc1_scratch6) (by decide),
          Finset.mem_erase.mpr ⟨cS_ne d i (a := cc1_scoped0) (b := cc1_scratch5) (by decide), cS_mem d i (by decide)⟩⟩⟩⟩)]

abbrev rV (b : Ref sig .scVector) : DevRef τ sig := (Proc.scVector ((i 0).castLE hcore1) ((i 1).castLE hsub1)).devRef b

omit [FloatOps F] in
theorem rV_ne {a b : Ref sig .scVector} (h : a ≠ b) : rV i a ≠ rV i b := fun e => absurd (Proc.devRef_injective _ e) h

omit [FloatOps F] in
/-- The five scratch buffers are among the subcore's own: they, at some contents, and the rest. -/
theorem ownBufs_V :
    (ownBufs (thr d i) : sProp 𝕄)
      = iprop((∃ f, (thr d i).loc cc1_scratch0 ↦{fullShare} f) ∗ (∃ f, (thr d i).loc cc1_scratch1 ↦{fullShare} f)
          ∗ (∃ f, (thr d i).loc cc1_scratch2 ↦{fullShare} f) ∗ (∃ f, (thr d i).loc cc1_scratch3 ↦{fullShare} f) ∗ (∃ f, (thr d i).loc cc1_scratch4 ↦{fullShare} f)
          ∗ bigSep ((((((ownRefs (τ := τ) (.scVector ((i 0).castLE hcore1) ((i 1).castLE hsub1))).erase (rV i cc1_scratch0)).erase (rV i cc1_scratch1)).erase
              (rV i cc1_scratch2)).erase (rV i cc1_scratch3)).erase (rV i cc1_scratch4))
              fun b => iprop(∃ f, ((d, b) : Loc nD τ sig) ↦{fullShare} f)) := by
  unfold SparseCore.Cfg.ownBufs
  have hm : ∀ b : Ref sig .scVector, (rV i b).owner = .proc (.scVector ((i 0).castLE hcore1) ((i 1).castLE hsub1)) →
      rV i b ∈ ownRefs (τ := τ) (.scVector ((i 0).castLE hcore1) ((i 1).castLE hsub1)) := fun b hb =>
    SparseCore.Cfg.mem_ownRefs_of_owner (p := Proc.scVector ((i 0).castLE hcore1) ((i 1).castLE hsub1)) (b := rV i b) hb
  refine (SparseCore.bigSep_erase' (hm cc1_scratch0 rfl)).trans ?_
  rw [SparseCore.bigSep_erase' (Finset.mem_erase.mpr ⟨rV_ne i (a := cc1_scratch1) (b := cc1_scratch0) (by decide), hm _ rfl⟩),
    SparseCore.bigSep_erase' (Finset.mem_erase.mpr ⟨rV_ne i (a := cc1_scratch2) (b := cc1_scratch1) (by decide),
      Finset.mem_erase.mpr ⟨rV_ne i (a := cc1_scratch2) (b := cc1_scratch0) (by decide), hm _ rfl⟩⟩),
    SparseCore.bigSep_erase' (Finset.mem_erase.mpr ⟨rV_ne i (a := cc1_scratch3) (b := cc1_scratch2) (by decide),
      Finset.mem_erase.mpr ⟨rV_ne i (a := cc1_scratch3) (b := cc1_scratch1) (by decide),
        Finset.mem_erase.mpr ⟨rV_ne i (a := cc1_scratch3) (b := cc1_scratch0) (by decide), hm _ rfl⟩⟩⟩),
    SparseCore.bigSep_erase' (Finset.mem_erase.mpr ⟨rV_ne i (a := cc1_scratch4) (b := cc1_scratch3) (by decide),
      Finset.mem_erase.mpr ⟨rV_ne i (a := cc1_scratch4) (b := cc1_scratch2) (by decide),
        Finset.mem_erase.mpr ⟨rV_ne i (a := cc1_scratch4) (b := cc1_scratch1) (by decide),
          Finset.mem_erase.mpr ⟨rV_ne i (a := cc1_scratch4) (b := cc1_scratch0) (by decide), hm _ rfl⟩⟩⟩⟩)]

/-- The program a subcore runs. -/
abbrev tileProg :=
  cc1__sc_scatter_body (F := F) i idxV (Memref.isWhole_whole _) srcV (Memref.isWhole_whole _) outV (Memref.isWhole_whole _)
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    (Memref.whole cc1_scratch4) (Memref.isWhole_whole _) cc1_scratch5 cc1_scratch6 cc1_scratch7 cc1_scratch8 cc1_scoped0

/-- A subcore's task: from its share to its row done, its scratch and its semaphores back as they were. -/
theorem tile_task (hF : (K (F := F)).Facts) (hI : ∀ d x, (I d x).toNat < 10000) (O : CellTallies nD τ sig (HIx 1)) (W : Waits sig (HIx 1))
    (hO : ∀ g, O g none = 0) :
    iprop(levAts (K (F := F)).L (K (F := F)).lev ∗ iprop(emp) ∗ goR I X d (i 0).val (i 1).val
        ∗ scopedBufs (thr d i) ∗ scopedSems0 (thr d i) ∗ owes (thr d i) O W)
      ⊢ wp frame (wpE (defs₀ (F := F)) 𝒱₀ (thr d i) none) Set.univ (tileProg (F := F) i)
          fun _ => iprop(tdR I X d (i 0).val (i 1).val ∗ scopedBufs (thr d i) ∗ scopedSems0 (thr d i)
            ∗ ∃ W', ⌜∀ p ∈ W', p ∈ W ∨ p.2 = none⌝ ∗ owes (thr d i) O W') := by
  rw [(K (F := F)).scopedBufs_V hF d ((i 0).castLE hcore1) ((i 1).castLE hsub1),
    SparseCore.Cfg.scopedSems0_V (Val := Elt F) d ((i 0).castLE hcore1) ((i 1).castLE hsub1), ownSems0_V, ownBufs_V]
  have hb : ∀ (b : Ref sig .scVector), (iprop(∃ Y, owns (thr d i) (Memref.whole b) fullShare Y) : sProp 𝕄)
      = iprop(∃ f, (thr d i).loc b ↦{fullShare} f) := fun b => by
    simp only [owns_whole (Val := Elt F) (thr d i) b fullShare]
  have hbody := body_wp (F := F) d i (O := O) (W := W) idxV (Memref.isWhole_whole _) srcV (Memref.isWhole_whole _) outV (Memref.isWhole_whole _)
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    (Memref.whole cc1_scratch4) (Memref.isWhole_whole _) cc1_scratch5 cc1_scratch6 cc1_scratch7 cc1_scratch8 cc1_scoped0 (I d) (X d) (hI d)
  unfold idle at hbody
  rw [← rights_reads] at hbody
  unfold waits at hbody
  unfold goR tdR
  iintro ⟨#Hlv, -, ⟨HR, %f, Ho⟩, ⟨H0, H1, H2, H3, H4, Hbufs⟩, ⟨S5, S6, S7, S8, S9, Hsems⟩, HO⟩
  ihave Ho := (row_start d i f) $$ Ho
  ihave H0 := (Entails.of_eq (hb cc1_scratch0).symm) $$ H0
  ihave H1 := (Entails.of_eq (hb cc1_scratch1).symm) $$ H1
  ihave H2 := (Entails.of_eq (hb cc1_scratch2).symm) $$ H2
  ihave H3 := (Entails.of_eq (hb cc1_scratch3).symm) $$ H3
  ihave H4 := (Entails.of_eq (hb cc1_scratch4).symm) $$ H4
  ihave HM := ((K (F := F)).mayWaits_none (thr := thr d i) hO) $$ []
  · iexact Hlv
  iapply (wp_wand_r frame (wpE (defs₀ (F := F)) 𝒱₀ (thr d i) none) Set.univ)
  isplitl [HR Ho H0 H1 H2 H3 H4 S5 S6 S7 S8 S9 HO HM]
  · iapply hbody
    isplitl [H1 S5 H3 S7 HR]
    · isplitr [HR]
      · isplitl [H1 S5]
        · isplitl [H1] <;> iassumption
        · isplitl [H3] <;> iassumption
      · iexact HR
    isplitl [H0]; · iexact H0
    isplitl [H2 S6 H4 S8]
    · isplitl [H2 S6]
      · isplitl [H2] <;> iassumption
      · isplitl [H4] <;> iassumption
    isplitl [HO HM]
    · isplitl [HM]; · iexact HM
      iexists W; isplitr
      · ipureintro; exact fun p hp => Or.inl hp
      · iexact HO
    isplitl [Ho]; · iexact Ho
    iexact S9
  · iintro %_ ⟨⟨⟨⟨H1, S5⟩, H3, S7⟩, -⟩, H0, ⟨⟨H2, S6⟩, H4, S8⟩, ⟨-, HO⟩, Ho, S9⟩
    isplitl [Ho]
    · iapply (row_done d i (I d) (X d)); iexact Ho
    ihave H0 := (Entails.of_eq (hb cc1_scratch0)) $$ H0
    ihave H1 := (Entails.of_eq (hb cc1_scratch1)) $$ H1
    ihave H2 := (Entails.of_eq (hb cc1_scratch2)) $$ H2
    ihave H3 := (Entails.of_eq (hb cc1_scratch3)) $$ H3
    ihave H4 := (Entails.of_eq (hb cc1_scratch4)) $$ H4
    isplitl [H0 H1 H2 H3 H4 Hbufs]
    · isplitl [H0]; · iexact H0
      isplitl [H1]; · iexact H1
      isplitl [H2]; · iexact H2
      isplitl [H3]; · iexact H3
      isplitl [H4]; · iexact H4
      iexact Hbufs
    isplitl [S5 S6 S7 S8 S9 Hsems]
    · isplitl [S5]; · iexact S5
      isplitl [S6]; · iexact S6
      isplitl [S7]; · iexact S7
      isplitl [S8]; · iexact S8
      isplitl [S9]; · iexact S9
      iexact Hsems
    iexact HO

end Tile

/-! ## The launch theorem's two obligations -/

theorem defs₀_vector (c : Fin τ.nSC) (s : Fin τ.nSub) :
    defs₀ (F := F) (.scVector c s) 1 ()
      = SparseCore.onTile hcore1 hsub1 (fun c s => tileProg (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 2048 in
/-- Every subcore's task meets its obligation. -/
theorem tileObl (hF : (K (F := F)).Facts) (hI : ∀ d x, (I d x).toNat < 10000) : (K (F := F)).TileObl (D (F := F)) 𝒱 (P I X) v₀ 0 := by
  intro d c i O W hO _ _
  simp only [show (P I X).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_task I X d (coordsV ⟨_, hc.1⟩ ⟨_, hc.2⟩) hF hI O W hO).trans (wp_mono frame _ _ fun _ => obl_post)

omit [FloatOps F] in
theorem rows_some (d : Dev nD) (c : ℕ) (f : S2x16x80000.Idx → F .f32) :
    (bigSep Finset.univ fun s : Fin 16 => (outLoc d ↦[rowSet c s.val]{fullShare} f : sProp 𝕄))
      ⊢ bigSep Finset.univ fun s : Fin 16 => iprop(∃ f, outLoc d ↦[rowSet c s.val]{fullShare} f) :=
  bigSep_mono fun s _ => by
    show (outLoc d ↦[rowSet c s.val]{fullShare} f : sProp 𝕄) ⊢ iprop(∃ f, outLoc d ↦[rowSet c s.val]{fullShare} f)
    iintro H; iexists f; iexact H

/-- A SparseCore's share is its subcores', and their rows done are its rows done. -/
theorem vecSplit : (K (F := F)).VecSplit' (P I X) 0 := by
  intro d c
  show stR I X d c.val ⊢ |={Set.univ}=> iprop(
      (bigSep Finset.univ fun i : Fin 16 => goR I X d c.val i.val)
      ∗ ((bigSep Finset.univ fun i : Fin 16 => tdR I X d c.val i.val) -∗ dnR I X d c.val))
  unfold stR goR tdR dnR
  rw [bigSep_sep']
  iintro ⟨HR, %f, Ho⟩
  imodintro
  ihave Ho := (Entails.of_eq (half_rows d c.val f)) $$ Ho
  isplitl [HR Ho]
  · isplitl [HR]
    · iapply (rights_deal Finset.univ d (I d) (X d)); iexact HR
    · iapply (rows_some d c.val f)
      iexact Ho
  · iintro H
    ihave H := (Entails.of_eq (half_rows d c.val (parts (I d) (X d))).symm) $$ H
    iexact H

end Cert.Proof.Edge

end
-- ==== Proof.Ghost.lean ====
/-
  What the launch hands out — the ghost state of the SparseCore handshakes and of the two TensorCore regions — and the
  steps of the TensorCore's program: entering a region, and calling the SparseCores.
-/
module

public import proofs.«01_k».proof.Proof.Region2
public import proofs.«01_k».proof.Proof.Tiles

@[expose] public section

noncomputable section

namespace Cert.Proof.Edge

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.ShloMosaic.Pipeline (Dat Cfg Window)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The regions have no prefetched table. -/
abbrev adm (p : Fin 2) : (pcfgs (F := F) p).Adm := (cfgs p).toPCfg_adm

/-! ## The launch's ghost state -/

omit [FloatOps F] in
theorem cells_apart : Function.Injective (Pipeline.cellOf (nD := nD) (τ := τ) (Pipeline.pin (pcfgs (F := F)) adm)) := cellOf_inj

/-- The launch's ghost state: the handshakes' and the regions' rounds at their start, no transfer counted. -/
def u₀ : UU :=
  (initOf (K (F := F)).hsCells (K (F := F)).hsToks,
    (initOf (Pipeline.cells (nD := nD) (τ := τ) (Pipeline.pin (pcfgs (F := F)) adm) cells_apart)
      (Pipeline.launchToks (nD := nD) (τ := τ) (Pipeline.pin (pcfgs (F := F)) adm) cells_apart), 1))

/-- A region's share of it on one device. -/
abbrev ghost (p : Fin 2) (d : Dev nD) : sProp 𝕄 :=
  iprop(Pipeline.cellsGhost (Pipeline.pin (pcfgs (F := F)) adm) EP p d ∗ Pipeline.toksInit (Pipeline.pin (pcfgs (F := F)) adm) EP p d)

omit [FloatOps F] in
theorem split_ghost (a : UH) (b : UP) :
    (ownU ((a, (b, 1)) : UU) : sProp 𝕄) ⊢ iprop(BI.own (EH a) ∗ BI.own (EP (F := F) b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op ((b, 1) : UP × Counters))))

omit [FloatOps F] in
theorem both_regions (Φ : Fin 2 → Dev nD → sProp 𝕄) :
    (bigSep Finset.univ fun d : Dev nD => bigSep Finset.univ fun p : Fin 2 => Φ p d)
      = bigSep Finset.univ fun d : Dev nD => iprop(Φ 0 d ∗ Φ 1 d) :=
  congrArg (bigSep Finset.univ) (funext fun d => by
    rw [show (Finset.univ : Finset (Fin 2)) = {0, 1} by decide, SparseCore.bigSep_insert' (by decide), bigSep_singleton])

variable (I : Dev nD → S128x320000.Idx → BitVec 32) (X : Dev nD → S128x320000.Idx → F .f32)

/-- The call hands nothing beside its payloads. -/
theorem no_extra : (iprop(emp) : sProp 𝕄)
    ⊢ bigSep Finset.univ fun thr : Thread nD τ => bigSep Finset.univ fun q : Fin 1 => (P I X).x q thr := by
  have e : (fun thr : Thread nD τ => bigSep Finset.univ fun q : Fin 1 => (P I X).x q thr) = fun _ => (BI.emp : sProp 𝕄) :=
    funext fun thr => bigSep_univ_of_subsingleton (0 : Fin 1)
  rw [e]
  exact Entails.of_eq (bigSep_emp_const Finset.univ).symm

omit [FloatOps F] in
/-- Two families over the devices and the regions, put together device by device. -/
theorem regroup (Φ0 Φ1 Ψ0 Ψ1 : Dev nD → sProp 𝕄) :
    iprop((bigSep Finset.univ fun d : Dev nD => iprop(Φ0 d ∗ Φ1 d)) ∗ bigSep Finset.univ fun d : Dev nD => iprop(Ψ0 d ∗ Ψ1 d))
      ⊢ bigSep Finset.univ fun d : Dev nD => iprop((Φ0 d ∗ Ψ0 d) ∗ (Φ1 d ∗ Ψ1 d)) := by
  have e := bigSep_sep' (Finset.univ : Finset (Dev nD)) (Φ := fun d => iprop(Φ0 d ∗ Φ1 d)) (Ψ := fun d => iprop(Ψ0 d ∗ Ψ1 d))
  have hm : (bigSep Finset.univ fun d : Dev nD => iprop((Φ0 d ∗ Φ1 d) ∗ (Ψ0 d ∗ Ψ1 d)))
      ⊢ bigSep Finset.univ fun d : Dev nD => iprop((Φ0 d ∗ Ψ0 d) ∗ (Φ1 d ∗ Ψ1 d)) := bigSep_mono fun d _ => by
    show iprop((Φ0 d ∗ Φ1 d) ∗ (Ψ0 d ∗ Ψ1 d)) ⊢ iprop((Φ0 d ∗ Ψ0 d) ∗ (Φ1 d ∗ Ψ1 d))
    iintro ⟨⟨H1, H2⟩, H3, H4⟩
    isplitl [H1 H3]
    · isplitl [H1] <;> iassumption
    · isplitl [H2] <;> iassumption
  exact (Entails.of_eq e.symm).trans hm

/-- The launch's ghost state deals every device its share. -/
theorem deal_ghost : (ownU (u₀ (F := F)) : sProp 𝕄)
    ⊢ |={Set.univ}=> iprop(BI.own (EH (initOf (K (F := F)).hsCells (K (F := F)).hsToks))
        ∗ (bigSep Finset.univ fun d : Dev nD => iprop(ghost 0 d ∗ ghost 1 d))
        ∗ bigSep Finset.univ fun thr : Thread nD τ => bigSep Finset.univ fun q : Fin 1 => (P I X).x q thr) := by
  have hf := Pipeline.fund_ghost (nD := nD) (τ := τ) (sig := sig) (Val := Elt F) (Ix := HIx 1) (Name := ℕ) (U := UU) (Lvl := ℕ)
    (Pipeline.pin (pcfgs (F := F)) adm) EP cells_apart
  unfold u₀
  iintro Hu
  ihave H := (split_ghost _ _) $$ Hu
  icases H with ⟨HH, HP⟩
  imod hf $$ HP with ⟨Hg, Ht⟩
  imodintro
  isplitl [HH]; · iexact HH
  isplitl [Hg Ht]
  · ihave Hg := (Entails.of_eq (both_regions fun p d => Pipeline.cellsGhost (Pipeline.pin (pcfgs (F := F)) adm) EP p d)) $$ Hg
    ihave Ht := (Entails.of_eq (both_regions fun p d => Pipeline.toksInit (Pipeline.pin (pcfgs (F := F)) adm) EP p d)) $$ Ht
    iapply (regroup _ _ _ _)
    isplitl [Hg]
    · iexact Hg
    · iexact Ht
  · iapply (no_extra I X); iempintro

/-! ## The steps -/

/-- Between calls, what the TensorCore owes may be taken out of its state and put back. -/
theorem owes_out (d : Dev nD) (n : ℕ) :
    ((K (F := F)).tcSt EH d n : sProp 𝕄) ⊢ iprop(tcOwes d n ∗ (tcOwes d n -∗ (K (F := F)).tcSt EH d n)) := by
  unfold SparseCore.Cfg.tcSt
  iintro ⟨HO, Hrest⟩
  isplitl [HO]; · iexact HO
  iintro HO
  isplitl [HO]; · iexact HO
  iexact Hrest

/-- Entering a region: from what it asks for, to what it leaves. -/
theorem enter {p : Fin 2} {pd : (p : Fin 2) → (c : Dev nD) → Dat τ (Elt F) (HIx 1) ℕ UU ℕ (Pipeline.pin (pcfgs (F := F)) adm p) c}
    (R : Pipeline.RegionSeg (pcfgs (F := F)) adm pd none defs₀ 𝒱₀ (K (F := F)).L (K (F := F)).lev p) (d : Dev nD)
    (Φ : PUnit → sProp 𝕄) :
    iprop((iprop(boundary (T d) ∗ R.post d) -∗ Φ ⟨⟩) ∗ boundary (T d) ∗ R.pre d ∗ levAts (K (F := F)).L (K (F := F)).lev ∗ ghost p d)
      ⊢ wp frame (wpE ((K (F := F)).defs (D (F := F))) 𝒱 (T d) none) Set.univ
          (Prog.lift (.customCall (SparseCore.inner (Pipeline.entry p)) ())) Φ := by
  have hr := Pipeline.RegionSeg.wp (pcfgs (F := F)) adm pd none cells_apart EP defs₀ 𝒱₀ (K (F := F)).L (K (F := F)).lev R d none
    (fun u hu => nomatch hu) (fun x => Prog.ret x) Φ
  refine BIBase.Entails.trans ?_ ((K (F := F)).wp_liftProg (D (F := F)) 𝒱 (T d) Set.univ none (.op (.customCall (Pipeline.entry p) ()) .ret) Φ)
  refine BIBase.Entails.trans ?_ hr
  iintro ⟨Hk, Hb, Hpre, Hl, Hg⟩
  isplitl [Hk]
  · iintro H
    rw [wp_ret]
    imodintro
    iapply Hk $$ H
  isplitl [Hb]; · iexact Hb
  isplitl [Hpre]; · iexact Hpre
  isplitl [Hl]; · iexact Hl
  iexact Hg

/-- The first region: the two edge arrays end transposed. -/
theorem enter0 (A0 : Dev nD → S320000x128.Idx → BitVec 32) (A3 : Dev nD → S320000x128.Idx → F .f32)
    (J0 : Dev nD → S128x320000.Idx → BitVec 32) (J1 : Dev nD → S128x320000.Idx → F .f32) (d : Dev nD) (Φ : PUnit → sProp 𝕄) :
    iprop((iprop(boundary (T d) ∗ (arrs0 d (A0 d) (A3 d) (flipped (A0 d)) (flipped (A3 d)) ∗ tcOwes d 0)) -∗ Φ ⟨⟩)
        ∗ boundary (T d) ∗ (arrs0 d (A0 d) (A3 d) (J0 d) (J1 d) ∗ tcOwes d 0)
        ∗ levAts (K (F := F)).L (K (F := F)).lev ∗ ghost 0 d)
      ⊢ wp frame (wpE ((K (F := F)).defs (D (F := F))) 𝒱 (T d) none) Set.univ
          (Prog.lift (.customCall (SparseCore.inner (Pipeline.entry 0)) ())) Φ :=
  enter (reg0 A0 A3 J0 J1 adm) d Φ

/-- The second region: the result array ends at the combination. -/
theorem enter2 (N B : Dev nD → S10000x128.Idx → F .f32) (Pr : Dev nD → S2x10000x128.Idx → F .f32)
    (O : Dev nD → S10000x128.Idx → F .f32) (d : Dev nD) (Φ : PUnit → sProp 𝕄) :
    iprop((iprop(boundary (T d) ∗ (arrs2 d (N d) (B d) (Pr d) (combined (N d) (B d) (Pr d)) ∗ tcOwes d 1)) -∗ Φ ⟨⟩)
        ∗ boundary (T d) ∗ (arrs2 d (N d) (B d) (Pr d) (O d) ∗ tcOwes d 1)
        ∗ levAts (K (F := F)).L (K (F := F)).lev ∗ ghost 1 d)
      ⊢ wp frame (wpE ((K (F := F)).defs (D (F := F))) 𝒱 (T d) none) Set.univ
          (Prog.lift (.customCall (SparseCore.inner (Pipeline.entry 1)) ())) Φ :=
  enter (reg2 N B Pr O adm) d Φ

/-! ## The call -/

omit [FloatOps F] in
/-- Holding part of an array at known contents is holding it at some contents. -/
theorem some_contents (l : Loc nD τ sig) (A : Finset l.2.ty.Idx) (f : Buf (Elt F) l) :
    (l ↦[A]{fullShare} f : sProp 𝕄) ⊢ iprop(∃ g, l ↦[A]{fullShare} g) := by
  iintro H; iexists f; iexact H

/-- The two transposed arrays and the output array make up what the two SparseCores are handed. -/
theorem hand_out (d : Dev nD) (f : S2x16x80000.Idx → F .f32) :
    iprop((idxLoc d ↦{fullShare} (show Buf (Elt F) (idxLoc d) from I d)) ∗ (srcLoc d ↦{fullShare} (show Buf (Elt F) (srcLoc d) from X d))
        ∗ outLoc d ↦{fullShare} (show Buf (Elt F) (outLoc d) from f))
      ⊢ (bigSep Finset.univ fun c : Fin ((K (F := F)).nCore 0) => (P I X).st 0 d c : sProp 𝕄) := by
  have e : (bigSep Finset.univ fun c : Fin ((K (F := F)).nCore 0) => (P I X).st 0 d c : sProp 𝕄)
      = iprop((bigSep Finset.univ fun _ : Fin 2 => rights d (I d) (X d)) ∗ bigSep Finset.univ fun c : Fin 2 => iprop(∃ f, outLoc d ↦[halfSet c.val]{fullShare} f)) :=
    bigSep_sep' Finset.univ _ _
  rw [e]
  iintro ⟨HI, HX, Ho⟩
  isplitl [HI HX]
  · iapply (rights_deal Finset.univ d (I d) (X d))
    unfold rights
    isplitl [HI]
    · iexists fullShare; iexact HI
    · iexists fullShare; iexact HX
  · ihave Ho := (Entails.of_eq (out_halves d f)) $$ Ho
    have hm : (bigSep Finset.univ fun c : Fin 2 => (outLoc d ↦[halfSet c.val]{fullShare} f : sProp 𝕄))
        ⊢ bigSep Finset.univ fun c : Fin 2 => iprop(∃ f, outLoc d ↦[halfSet c.val]{fullShare} f) :=
      bigSep_mono fun c _ => some_contents (outLoc d) (halfSet c.val) f
    iapply hm
    iexact Ho

/-- What they give back is the output array, every row done. -/
theorem hand_back (d : Dev nD) :
    (bigSep Finset.univ fun c : Fin ((K (F := F)).nCore 0) => (P I X).dn 0 d c : sProp 𝕄)
      ⊢ outLoc d ↦{fullShare} (show Buf (Elt F) (outLoc d) from parts (I d) (X d)) :=
  Entails.of_eq (out_halves d (parts (I d) (X d))).symm

end Cert.Proof.Edge

end
-- ==== Proof.Run.lean ====
/-
  The TensorCore's program on one device: the two edge arrays transposed, the SparseCores called, their partial sums laid
  out as a pair of node arrays, and the pair combined with the base array. From it, the whole program's run.
-/
module

public import proofs.«01_k».proof.Proof.Ghost

@[expose] public section

noncomputable section

namespace Cert.Proof.Edge

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.ShloMosaic.Pipeline (Dat Cfg Window)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

/-! ## The arrays on the host -/

omit [FloatOps F] in
/-- The arrays of the program outside the kernels, one by one. -/
theorem unscopedBufs_eq (d : Dev nD) (W : (b : Ref sig .tc) → Buf (Elt F) ((d.tc : Thread nD τ).loc b)) :
    (unscopedBufs d W : sProp 𝕄)
      = iprop(((SparseCore.T d).loc main_arg0 ↦{fullShare} W main_arg0) ∗ ((SparseCore.T d).loc main_arg1 ↦{fullShare} W main_arg1)
          ∗ ((SparseCore.T d).loc main_arg2 ↦{fullShare} W main_arg2) ∗ ((SparseCore.T d).loc main_arg3 ↦{fullShare} W main_arg3)
          ∗ ((SparseCore.T d).loc main_v0_0 ↦{fullShare} W main_v0_0) ∗ ((SparseCore.T d).loc main_v0_1 ↦{fullShare} W main_v0_1)
          ∗ ((SparseCore.T d).loc main_v1 ↦{fullShare} W main_v1) ∗ ((SparseCore.T d).loc main_v2 ↦{fullShare} W main_v2)
          ∗ ((SparseCore.T d).loc main_v3 ↦{fullShare} W main_v3) ∗ ((SparseCore.T d).loc main_v4 ↦{fullShare} W main_v4)
          ∗ (SparseCore.T d).loc main_v5 ↦{fullShare} W main_v5) := by
  unfold unscopedBufs
  rw [show (Finset.univ.filter fun b : Ref sig .tc => ¬ b.isScoped)
      = {main_arg0, main_arg1, main_arg2, main_arg3, main_v0_0, main_v0_1, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

abbrev r1 : DevRef τ sig := Proc.devRef .tc (main_v1 : Ref sig .tc)
abbrev r2 : DevRef τ sig := Proc.devRef .tc (main_v2 : Ref sig .tc)
abbrev r3 : DevRef τ sig := Proc.devRef .tc (main_v3 : Ref sig .tc)
abbrev r4 : DevRef τ sig := Proc.devRef .tc (main_v4 : Ref sig .tc)

/-- The accumulators split into nodes and lanes; -/
abbrev opSplit : HloOp τ sig (Elt F) :=
  StableHlo.reshape main_v1 main_v2 (rfl : (.f32 : EltTy) = .f32) shapeCasts_S2x16x80000_S2x16x10000x8
/-- the nodes put first; -/
abbrev opSwap : HloOp τ sig (Elt F) :=
  StableHlo.unary main_v2 main_v3 ((transpose S2x10000x16x8 [0, 2, 1, 3] · transposes_S2x16x10000x8_S2x10000x16x8_0_2_1_3) : (⟨S2x16x10000x8, .f32⟩ : BufTy).Contents (Elt F) → (⟨S2x10000x16x8, .f32⟩ : BufTy).Contents (Elt F))
/-- the features joined again. -/
abbrev opJoin : HloOp τ sig (Elt F) :=
  StableHlo.reshape main_v3 main_v4 (rfl : (.f32 : EltTy) = .f32) shapeCasts_S2x10000x16x8_S2x10000x128

abbrev S4 : Finset (DevRef τ sig) := {r1, r2, r3, r4}

omit [FloatOps F] in
theorem held_S4 (d : Dev nD) (W : Valuation τ sig (Elt F)) :
    (held (SparseCore.T d) S4 W : sProp 𝕄)
      = iprop(((SparseCore.T d).loc main_v1 ↦{fullShare} W r1) ∗ ((SparseCore.T d).loc main_v2 ↦{fullShare} W r2)
          ∗ ((SparseCore.T d).loc main_v3 ↦{fullShare} W r3) ∗ (SparseCore.T d).loc main_v4 ↦{fullShare} W r4) := by
  unfold held S4
  rw [SparseCore.bigSep_insert' (by decide), SparseCore.bigSep_insert' (by decide), SparseCore.bigSep_insert' (by decide),
    bigSep_singleton]

omit [FloatOps F] in
theorem sub_split : (opSplit (F := F)).bufs ⊆ S4 := show ({r1, r2} : Finset (DevRef τ sig)) ⊆ S4 by decide
omit [FloatOps F] in
theorem sub_swap : (opSwap (F := F)).bufs ⊆ S4 := show ({r2, r3} : Finset (DevRef τ sig)) ⊆ S4 by decide
omit [FloatOps F] in
theorem sub_join : (opJoin (F := F)).bufs ⊆ S4 := show ({r3, r4} : Finset (DevRef τ sig)) ⊆ S4 by decide

/-- The subcores' accumulators laid out as two node arrays. -/
def relaid (Y : S2x16x80000.Idx → F .f32) : S2x10000x128.Idx → F .f32 :=
  shapeCast S2x10000x128
    (transpose S2x10000x16x8 [0, 2, 1, 3] (shapeCast S2x16x10000x8 Y shapeCasts_S2x16x80000_S2x16x10000x8) transposes_S2x16x10000x8_S2x10000x16x8_0_2_1_3)
    shapeCasts_S2x10000x16x8_S2x10000x128

omit [FloatOps F] in
/-- The three operations leave the last array at the layout of the first. -/
theorem relaid_result (V : Valuation τ sig (Elt F)) :
    (opJoin (F := F)).result ((opSwap (F := F)).result ((opSplit (F := F)).result V)) r4 = relaid (F := F) (V r1) := by
  refine (StableHlo.reshape_result _ _ _ _ _ _ _).trans ?_
  rw [show (opSwap (F := F)).result ((opSplit (F := F)).result V) (Proc.devRef .tc main_v3) = _ from StableHlo.unary_result _ _ _ _ _ _,
    show (opSplit (F := F)).result V (Proc.devRef .tc main_v2) = _ from StableHlo.reshape_result _ _ _ _ _ _ _]
  rfl

/-! ## The program -/

variable (m : (ℓ : Loc nD τ sig) → Buf (Elt F) ℓ) (ρ : Dev nD → PrngReg)

/-- The four arguments, as arrays. -/
abbrev idxOf (d : Dev nD) : S320000x128.Idx → BitVec 32 := m ((SparseCore.T d).loc main_arg0)
abbrev denOf (d : Dev nD) : S10000x128.Idx → F .f32 := m ((SparseCore.T d).loc main_arg1)
abbrev baseOf (d : Dev nD) : S10000x128.Idx → F .f32 := m ((SparseCore.T d).loc main_arg2)
abbrev edgeOf (d : Dev nD) : S320000x128.Idx → F .f32 := m ((SparseCore.T d).loc main_arg3)

/-- The subcores' accumulators. -/
abbrev sums (d : Dev nD) : S2x16x80000.Idx → F .f32 := parts (flipped (idxOf m d)) (flipped (edgeOf m d))

/-- The program's result. -/
def result (d : Dev nD) : S10000x128.Idx → F .f32 := combined (denOf m d) (baseOf m d) (relaid (sums m d))

abbrev PP : (K (F := F)).Pay (nD := nD) (Val := Elt F) (Name := ℕ) (U := UU) :=
  P (fun d => flipped (idxOf m d)) (fun d => flipped (edgeOf m d))

/-- What the TensorCore ends with: the arguments as they were, and the result. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ (SparseCore.T d).loc main_v5 ↦{fullShare} (show Buf (Elt F) ((SparseCore.T d).loc main_v5) from result m d))

/-- The host's arrays at the call's end: the subcores' accumulators written. -/
def V1 (d : Dev nD) : Valuation τ sig (Elt F) := Function.update (fun b => m (d, b)) r1 (sums m d)

theorem V1_1 (d : Dev nD) : V1 m d r1 = sums m d := Function.update_self _ _ _
theorem V1_2 (d : Dev nD) : V1 m d r2 = m ((SparseCore.T d).loc main_v2) := Function.update_of_ne (show r2 ≠ r1 by decide) _ _
theorem V1_3 (d : Dev nD) : V1 m d r3 = m ((SparseCore.T d).loc main_v3) := Function.update_of_ne (show r3 ≠ r1 by decide) _ _
theorem V1_4 (d : Dev nD) : V1 m d r4 = m ((SparseCore.T d).loc main_v4) := Function.update_of_ne (show r4 ≠ r1 by decide) _ _

/-- Before the three operations. -/
theorem held_before (d : Dev nD) :
    (held (SparseCore.T d) S4 (V1 m d) : sProp 𝕄)
      = iprop(((SparseCore.T d).loc main_v1 ↦{fullShare} (show Buf (Elt F) ((SparseCore.T d).loc main_v1) from sums m d)) ∗ ((SparseCore.T d).loc main_v2 ↦{fullShare} m ((SparseCore.T d).loc main_v2))
          ∗ ((SparseCore.T d).loc main_v3 ↦{fullShare} m ((SparseCore.T d).loc main_v3)) ∗ (SparseCore.T d).loc main_v4 ↦{fullShare} m ((SparseCore.T d).loc main_v4)) := by
  rw [held_S4, V1_1, V1_2, V1_3, V1_4]

/-- After them, what is wanted of it. -/
theorem held_after (d : Dev nD) :
    (held (SparseCore.T d) S4 ((opJoin (F := F)).result ((opSwap (F := F)).result ((opSplit (F := F)).result (V1 m d)))) : sProp 𝕄)
      ⊢ (SparseCore.T d).loc main_v4 ↦{fullShare} (show Buf (Elt F) ((SparseCore.T d).loc main_v4) from relaid (sums m d)) := by
  rw [held_S4, relaid_result, V1_1]
  iintro ⟨-, -, -, H⟩
  iexact H

/-- The TensorCore's program, from the launch to its end. -/
theorem hmain (κ : GSem nD τ sig → ℕ) (d : Dev nD) :
    iprop((K (F := F)).ctx EH (PP m) κ ∗ (K (F := F)).tcSt EH d 0 ∗ (K (F := F)).tcRes m ρ d ∗ (ghost 0 d ∗ ghost 1 d))
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha0, Ha1, Ha2, Ha3, Hi, Hx, H1, H2, H3, H4, H5⟩, Hts, -⟩, Hg0, Hg1⟩
  ihave #Hlev := ((K (F := F)).ctx_levAts κ) $$ Hctx
  -- the edge arrays transposed
  ihave Hst := (owes_out d 0) $$ Hst
  icases Hst with ⟨HO, Hback⟩
  iapply (enter0 (idxOf m) (edgeOf m) (fun d => m ((SparseCore.T d).loc main_v0_0)) (fun d => m ((SparseCore.T d).loc main_v0_1)) d _)
  isplitr [Hb Ha0 Ha3 Hi Hx HO Hg0]
  rotate_left
  · isplitl [Hb]; · iexact Hb
    isplitl [Ha0 Ha3 Hi Hx HO]
    · isplitr [HO]
      · isplitl [Ha0]; · iexact Ha0
        isplitl [Ha3]; · iexact Ha3
        isplitl [Hi]; · iexact Hi
        iexact Hx
      · iexact HO
    isplitr
    · iexact Hlev
    · iexact Hg0
  iintro ⟨Hb, ⟨Ha0, Ha3, Hi, Hx⟩, HO⟩
  ihave Hst := Hback $$ HO
  -- the SparseCores called
  iapply ((K (F := F)).wp_run (D (F := F)) 𝒱 (EH := EH) (P := PP m) κ d 0)
  isplitr; · iexact Hctx
  isplitl [Hst]; · iexact Hst
  isplitl [Hi Hx H1]
  · iapply (hand_out (fun d => flipped (idxOf m d)) (fun d => flipped (edgeOf m d)) d (m ((SparseCore.T d).loc main_v1)))
    isplitl [Hi]; · iexact Hi
    isplitl [Hx]; · iexact Hx
    iexact H1
  iintro ⟨Hst, Hdn⟩
  ihave H1 := (hand_back (fun d => flipped (idxOf m d)) (fun d => flipped (edgeOf m d)) d) $$ Hdn
  -- the accumulators laid out
  iapply (wp_hlo_within 𝒱 (SparseCore.T d) none Set.univ (op := opSplit) (S := S4) sub_split (V := V1 m d)) $$ [Hb H1 H2 H3 H4]
  · isplitl [Hb]; · iexact Hb
    rw [held_before]
    isplitl [H1]; · iexact H1
    isplitl [H2]; · iexact H2
    isplitl [H3]; · iexact H3
    iexact H4
  iintro ⟨Hb, Hheld⟩
  rw [wp_ret]; imodintro
  iapply (wp_hlo_within 𝒱 (SparseCore.T d) none Set.univ (op := opSwap) (S := S4) sub_swap (V := (opSplit (F := F)).result (V1 m d))) $$ [Hb Hheld]
  · isplitl [Hb] <;> iassumption
  iintro ⟨Hb, Hheld⟩
  rw [wp_ret]; imodintro
  iapply (wp_hlo_within 𝒱 (SparseCore.T d) none Set.univ (op := opJoin) (S := S4) sub_join (V := (opSwap (F := F)).result ((opSplit (F := F)).result (V1 m d)))) $$ [Hb Hheld]
  · isplitl [Hb] <;> iassumption
  iintro ⟨Hb, Hheld⟩
  rw [wp_ret]; imodintro
  ihave H4 := (held_after m d) $$ Hheld
  -- the partial sums combined
  have ho : ((K (F := F)).tcSt EH d ((0 : Fin 1).val + 1) : sProp 𝕄) ⊢ iprop(tcOwes d 1 ∗ (tcOwes d 1 -∗ (K (F := F)).tcSt EH d 1)) := owes_out d 1
  ihave Hst := ho $$ Hst
  icases Hst with ⟨HO, Hback⟩
  iapply (enter2 (denOf m) (baseOf m) (fun d => relaid (sums m d)) (fun d => m ((SparseCore.T d).loc main_v5)) d _)
  isplitr [Hb Ha1 Ha2 H4 H5 HO Hg1]
  rotate_left
  · isplitl [Hb]; · iexact Hb
    isplitl [Ha1 Ha2 H4 H5 HO]
    · isplitr [HO]
      · isplitl [Ha1]; · iexact Ha1
        isplitl [Ha2]; · iexact Ha2
        isplitl [H4]; · iexact H4
        iexact H5
      · iexact HO
    isplitr
    · iexact Hlev
    · iexact Hg1
  iintro ⟨Hb, ⟨Ha1, Ha2, -, H5⟩, HO⟩
  ihave Hst := Hback $$ HO
  imodintro
  isplitl [Hst]; · iexact Hst
  isplitr [Hb Hts]
  · isplitl [Ha0]; · iexact Ha0
    isplitl [Ha1]; · iexact Ha1
    isplitl [Ha2]; · iexact Ha2
    isplitl [Ha3]; · iexact Ha3
    iexact H5
  isplitl [Hb] <;> iassumption

/-- What the claims read of a device's final memory. -/
def fq (d : Dev nD) (s' : Phys nD τ sig (Elt F)) : Prop :=
  (s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3))
  ∧ s'.mem.mem ((SparseCore.T d).loc main_v5) = result m d

omit [FloatOps F] in
/-- An array held whole is what memory holds there. -/
theorem read_off (s' : Phys nD τ sig (Elt F)) (l : Loc nD τ sig) (f : Buf (Elt F) l) :
    iprop(SI s' ∗ l ↦{fullShare} f) ⊢ (iprop(⌜s'.mem.mem l = f⌝ ∗ SI s') : sProp 𝕄) := by
  iintro ⟨HSI, Hx⟩
  ihave H := (persistent_entails_right (SI_pointsTo_agree (st := s') (ℓ := l) (I := Finset.univ) (q := fullShare) (f := f))) $$ [HSI Hx]
  · isplitl [HSI] <;> iassumption
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨H0, H1, H2, H3, H5⟩, HSI⟩
  ihave H := (read_off s' _ _) $$ [HSI H0]
  · isplitl [HSI]; · iexact HSI
    iexact H0
  icases H with ⟨%h0, HSI⟩
  ihave H := (read_off s' _ _) $$ [HSI H1]
  · isplitl [HSI]; · iexact HSI
    iexact H1
  icases H with ⟨%h1, HSI⟩
  ihave H := (read_off s' _ _) $$ [HSI H2]
  · isplitl [HSI]; · iexact HSI
    iexact H2
  icases H with ⟨%h2, HSI⟩
  ihave H := (read_off s' _ _) $$ [HSI H3]
  · isplitl [HSI]; · iexact HSI
    iexact H3
  icases H with ⟨%h3, HSI⟩
  ihave H := (read_off s' _ _) $$ [HSI H5]
  · isplitl [HSI]; · iexact HSI
    iexact H5
  icases H with ⟨%h5, -⟩
  ipureintro
  exact ⟨⟨h0, h1, h2, h3⟩, h5⟩

/-- At the end, on every device: the arguments unchanged, the result written; and every semaphore at zero. -/
def QC : PUnit × MemSt nD τ sig (Elt F) → Prop := fun r =>
  (∀ d : Dev nD, (r.2.mem ((SparseCore.T d).loc main_arg0) = m ((SparseCore.T d).loc main_arg0) ∧ r.2.mem ((SparseCore.T d).loc main_arg1) = m ((SparseCore.T d).loc main_arg1)
    ∧ r.2.mem ((SparseCore.T d).loc main_arg2) = m ((SparseCore.T d).loc main_arg2) ∧ r.2.mem ((SparseCore.T d).loc main_arg3) = m ((SparseCore.T d).loc main_arg3))
    ∧ r.2.mem ((SparseCore.T d).loc main_v5) = result m d) ∧ r.2.sem = fun _ => 0

/-- The whole program's run, at any float values, where every index names a node. -/
theorem run_main [∀ e, Nonempty (Elt F e)] (hin : ∀ d x, (idxOf m d x).toNat < 10000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl _ _ facts fun d x => hin d (flip x))
    (fun q _ => match q with | 0 => SparseCore.Cfg.VecSplit.of_plain (vecSplit _ _))
    m ρ main (fun d => iprop(ghost 0 d ∗ ghost 1 d)) (FIN m) (u₀ (F := F)) (sep_elim_left.trans (deal_ghost _ _)) (hmain m ρ) (fq m) (hfin m)
    (QC m) (fun _ h hz => ⟨h, hz⟩)

end Cert.Proof.Edge

end
-- ==== Proof.Frames.lean ====
/-
  The precondition read as a bound on every index, and the frame claims of the kernel, of its idealization and of the
  reference.
-/
module

public import proofs.«01_k».proof.Proof.Run
public import proofs.«01_k».proof.Proof.Gen.Kernel
public import proofs.«01_k».proof.Proof.Gen.ReferenceIdeal.Run
public import proofs.«01_k».proof.Proof.Gen.Pre_rows_in_range
public import Idealize.ShloMosaic.Lib.ReduceAll

@[expose] public section

noncomputable section

namespace Cert.Proof.Edge

open Idealize.ShloMosaic Idealize.SL.Sem

/-- A word that is signed at least 0 and below 10000 is, as a number, below 10000. -/
theorem word_in_range (v : BitVec 32) (e : IntOp.andi (IntOp.cmpi .sge v 0#32) (IntOp.cmpi .slt v 10000#32) = 1#1) :
    v.toNat < 10000 := by
  have both (p q : Bool) : IntOp.andi (BitVec.ofBool p) (BitVec.ofBool q) = BitVec.ofBool (p && q) := by
    cases p <;> cases q <;> decide
  have one (p : Bool) : (BitVec.ofBool p = 1#1) ↔ p = true := by cases p <;> decide
  simp only [IntOp.cmpi, both, one, Bool.and_eq_true, BitVec.sle_eq_decide, BitVec.slt_eq_decide,
    decide_eq_true_eq, BitVec.toInt_eq_toNat_cond, BitVec.toNat_ofNat, Nat.reducePow, Nat.reduceMod] at e
  omega

/-- The precondition says that every index names a node. -/
theorem in_range {F : FTy → Type} [FloatOps F] (a0 : IVec Cert.Pre_rows_in_range.S320000x128 32)
    (a1 a2 : FVec F Cert.Pre_rows_in_range.S10000x128 .f32) (a3 : FVec F Cert.Pre_rows_in_range.S320000x128 .f32)
    (h : Cert.Pre_rows_in_range.fn (F := F) a0 a1 a2 a3 = fun _ => 1#1) (x : Cert.Pre_rows_in_range.S320000x128.Idx) :
    (a0 x).toNat < 10000 := by
  haveI : Subsingleton Cert.Pre_rows_in_range.S_.Idx := ⟨fun a b => funext fun i => i.elim0⟩
  have e := Host.reduce_andi_all _ _ _ _ _ (congrFun h fun i => i.elim0) x
  exact word_in_range _ e

set_option maxHeartbeats 2000000 in
/-- At bit patterns, each body of the idealization is the kernel's body: nothing was rewritten. -/
theorem bodies_same : Cert.KernelIdeal.defs₀ (F := Bits) = Cert.Kernel.defs₀ (F := Bits) := by
  funext p l a
  match p, l, a with
  | .tc, 0, (t, s) => rfl
  | .scVector c s, 1, _ => rfl
  | .tc, 2, (t, s) => rfl
  | .tc, 1, _ => rfl
  | .scVector c s, 0, _ => rfl
  | .scVector c s, 2, _ => rfl
  | .scScalar c, 0, _ => rfl
  | .scScalar c, 1, _ => rfl
  | .scScalar c, 2, _ => rfl

/-- So the two programs' definitions are the same there. -/
theorem defs_same : Cert.KernelIdeal.defs (F := Bits) = Cert.Kernel.defs (F := Bits) :=
  congrArg (fun d => Cert.KernelIdeal.sc.defs (Pipeline.defs Cert.KernelIdeal.pcfgs d)) bodies_same

/-- The kernel's frame: the one run, at bit patterns. -/
theorem frame_kernel : Cert.quiescent_Kernel := by
  intro m ρ hpre
  have key : ∀ D, Cert.KernelIdeal.defs (F := Bits) = D → θ_run D Cert.KernelIdeal.threads ⟨m, fun _ => 0, ρ⟩
      fun r => (∀ c : Dev Cert.KernelIdeal.nD, r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2)
        ∧ r.2.mem (c.tc.loc Cert.KernelIdeal.main_arg3) = m (c.tc.loc Cert.KernelIdeal.main_arg3)) ∧ r.2.sem = fun _ => 0 := by
    rintro _ rfl
    exact (θ_run Cert.KernelIdeal.defs _ _).mono (fun _ h => ⟨fun c => (h.1 c).1, h.2⟩)
      (run_main (F := Bits) m ρ fun d x => in_range _ _ _ _ (hpre d) x)
  exact key _ defs_same

/-- The idealization's frame: the same run, at the extended reals. -/
theorem frame_ideal : Cert.quiescent_KernelIdeal := fun m ρ hpre =>
  (θ_run Cert.KernelIdeal.defs _ _).mono (fun _ h => ⟨fun c => (h.1 c).1, h.2⟩)
    (run_main (F := Ideal) m ρ fun d x => in_range _ _ _ _ (hpre d) x)

/-- The reference's frame: no operation writes an argument, and it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Edge

end
-- ==== Proof.KernelSum.lean ====
/-
  What the kernel computes over the extended reals: the accumulation of one half of the edges as a sum, the layout of the
  subcores' accumulators as node arrays read at one element, and the result as one quotient.
-/
module

public import proofs.«01_k».proof.Proof.Run
public import Idealize.ShloMosaic.Lib.Pipeline.Value
public import Idealize.ShloMosaic.Lib.Pointwise.Tactic

@[expose] public section

noncomputable section

namespace Cert.Proof.Edge

open Cert.KernelIdeal Cert.KernelIdeal.Gen
open Idealize.ShloMosaic Idealize.SL.Sem

/-- Edge `e`, column `c` of the edge arrays; the coordinates are taken modulo the extents. -/
abbrev edgeAt (e c : ℕ) : S320000x128.Idx := flip (at2 c e)

/-- What edge `e` adds to node `n` in column `c`: its weight there if its index there is the node, nothing otherwise. -/
def share (I : S320000x128.Idx → BitVec 32) (X : S320000x128.Idx → EReal) (n c e : ℕ) : EReal :=
  if (I (edgeAt e c)).toNat = n then X (edgeAt e c) else 0

/-- An accumulator's element is the sum of what the edges so far add to its node in its column. -/
theorem acc_sum (I : S320000x128.Idx → BitVec 32) (X : S320000x128.Idx → EReal) (s base e : ℕ) (p : S80000.Idx) :
    acc (F := Ideal) (flipped I) (flipped X) s base e p
      = ∑ k ∈ Finset.range e, share I X (nodeOf p) (8 * s + colOf p) (base + k) := by
  induction e with
  | zero => exact (Ideal.ofBits_zero .f32).trans (Finset.sum_range_zero _).symm
  | succ e ih =>
    rw [Finset.sum_range_succ, ← ih]
    show (if _ then _ else _) = _
    unfold share
    by_cases h : (I (edgeAt (base + e) (8 * s + colOf p))).toNat = nodeOf p
    · refine (if_pos h).trans ?_
      rw [if_pos h]
      rfl
    · refine (if_neg h).trans ?_
      rw [if_neg h, add_zero]

/-- Element `(g, s, k)` of the accumulators. -/
def at3 (g : Fin 2) (s : Fin 16) (k : Fin 80000) : S2x16x80000.Idx := fun a => match a with
  | ⟨0, _⟩ => g
  | ⟨1, _⟩ => s
  | ⟨2, _⟩ => k

/-- The subcore that owns a column, -/
def owner (c : Fin 128) : Fin 16 := ⟨c.val / 8, by omega⟩
/-- and the place of a node's element of that column in its accumulator. -/
def place (n : Fin 10000) (c : Fin 128) : Fin 80000 := ⟨8 * n.val + c.val % 8, by omega⟩

/-- The node array of half `g`, at one element: the owner's accumulator at the element's place. -/
theorem relaid_apply (Y : S2x16x80000.Idx → EReal) (g : Fin 2) (y : S10000x128.Idx) :
    relaid (F := Ideal) Y (half g y) = Y (at3 g (owner (y 1)) (place (y 0) (y 1))) := by
  have hn : (y 0).val < 10000 := (y 0).isLt
  have hc : (y 1).val < 128 := (y 1).isLt
  let j4 : S2x10000x16x8.Idx := fun a => match a with
    | ⟨0, _⟩ => (g : Fin 2)
    | ⟨1, _⟩ => (y 0 : Fin 10000)
    | ⟨2, _⟩ => (owner (y 1) : Fin 16)
    | ⟨3, _⟩ => (⟨(y 1).val % 8, Nat.mod_lt _ (by decide)⟩ : Fin 8)
  let k4 : S2x16x10000x8.Idx := fun a => match a with
    | ⟨0, _⟩ => (g : Fin 2)
    | ⟨1, _⟩ => (owner (y 1) : Fin 16)
    | ⟨2, _⟩ => (y 0 : Fin 10000)
    | ⟨3, _⟩ => (⟨(y 1).val % 8, Nat.mod_lt _ (by decide)⟩ : Fin 8)
  unfold relaid
  refine (shapeCast_apply _ _ (half g y) j4 ?_).trans
    ((transpose_apply _ _ _ j4 k4 ?_).trans (shapeCast_apply _ _ k4 (at3 g (owner (y 1)) (place (y 0) (y 1))) ?_))
  · refine (Shape.rowMajor_val_four j4).trans ((?_ : _ = _).trans (Shape.rowMajor_val_three (half g y)).symm)
    show ((g.val * 10000 + (y 0).val) * 16 + (y 1).val / 8) * 8 + (y 1).val % 8 = (g.val * 10000 + (y 0).val) * 128 + (y 1).val
    omega
  · intro b
    fin_cases b <;> rfl
  · refine (Shape.rowMajor_val_three (at3 g (owner (y 1)) (place (y 0) (y 1)))).trans ((?_ : _ = _).trans (Shape.rowMajor_val_four k4).symm)
    show (g.val * 16 + (y 1).val / 8) * 80000 + (8 * (y 0).val + (y 1).val % 8)
      = ((g.val * 16 + (y 1).val / 8) * 10000 + (y 0).val) * 8 + (y 1).val % 8
    omega

/-- One half's node array, at one element: the sum of what that half's edges add there. -/
theorem half_sum (I : S320000x128.Idx → BitVec 32) (X : S320000x128.Idx → EReal) (g : Fin 2) (y : S10000x128.Idx) :
    relaid (F := Ideal) (parts (F := Ideal) (flipped I) (flipped X)) (half g y)
      = ∑ k ∈ Finset.range 160000, share I X (y 0).val (y 1).val (160000 * g.val + k) := by
  rw [relaid_apply]
  refine (acc_sum I X ((y 1).val / 8) (160000 * g.val) 160000 (at1 (place (y 0) (y 1)))).trans ?_
  have hn : nodeOf (at1 (place (y 0) (y 1))) = (y 0).val := by
    show (8 * (y 0).val + (y 1).val % 8) / 8 = (y 0).val
    omega
  have hc : 8 * ((y 1).val / 8) + colOf (at1 (place (y 0) (y 1))) = (y 1).val := by
    show 8 * ((y 1).val / 8) + (8 * (y 0).val + (y 1).val % 8) % 8 = (y 1).val
    omega
  rw [hn, hc]

/-- The common value: the numerator over the base plus what all the edges add. -/
def quotient (I : S320000x128.Idx → BitVec 32) (N B : S10000x128.Idx → EReal) (X : S320000x128.Idx → EReal) : S10000x128.Idx → EReal :=
  fun y => Ideal.div (N y) (B y + ∑ e ∈ Finset.range 320000, share I X (y 0).val (y 1).val e)

/-- The kernel's result is that quotient: the two halves' sums, added to the base one after the other, are the sum over all
    the edges. -/
theorem combined_eq (I : S320000x128.Idx → BitVec 32) (N B : S10000x128.Idx → EReal) (X : S320000x128.Idx → EReal) :
    combined (F := Ideal) N B (relaid (F := Ideal) (parts (F := Ideal) (flipped I) (flipped X))) = quotient I N B X := by
  funext y
  show Ideal.div (N y) (B y + _ + _) = _
  unfold quotient
  rw [half_sum, half_sum, add_assoc]
  have hs := Finset.sum_range_add (fun e => share I X (y 0).val (y 1).val e) 160000 160000
  have h0 : ∀ k, 160000 * (0 : Fin 2).val + k = k := fun k => by simp
  have h1 : ∀ k, 160000 * (1 : Fin 2).val + k = 160000 + k := fun k => by simp
  simp only [h0, h1]
  rw [← hs]

end Cert.Proof.Edge

end
-- ==== Proof.RefSum.lean ====
/-
  What the reference computes over the extended reals: where each edge's weight lands, and the result as one quotient.
-/
module

public import proofs.«01_k».proof.Proof.KernelSum
public import proofs.«01_k».proof.Proof.Gen.ReferenceIdeal.Run
public import Idealize.ShloMosaic.Lib.Routing.OpsPair

@[expose] public section

noncomputable section

namespace Cert.Proof.Edge

open Cert.ReferenceIdeal Cert.ReferenceIdeal.Gen
open Idealize.ShloMosaic hiding ix1 ix2 ix3
open Idealize.ShloMosaic.ValueIdx

/-- The words that say where each edge's weight goes: a node for the first axis, -/
abbrev nodeWords (I : IVec S320000x128 32) : IVec S320000x128 32 :=
  select (cmpi .slt I (broadcastInDim S320000x128 ![] bcast_S_S320000x128 (constantI S_ 32 0#32)))
    (addi I (broadcastInDim S320000x128 ![] bcast_S_S320000x128 (constantI S_ 32 10000#32))) I
/-- the columns' numbers, -/
abbrev columns : IVec S320000x128 32 :=
  broadcastInDim S320000x128 ![0, 1] bcast_S1x128_S320000x128_0_1 (broadcastInDim S1x128 ![1] bcast_S128_S1x128_1 (iotaInDim S128 32 0))
/-- and a column for the second. -/
abbrev columnWords : IVec S320000x128 32 :=
  select (cmpi .slt columns (broadcastInDim S320000x128 ![] bcast_S_S320000x128 (constantI S_ 32 0#32)))
    (addi columns (broadcastInDim S320000x128 ![] bcast_S_S320000x128 (constantI S_ 32 128#32))) columns

/-- The two words side by side. -/
abbrev words (I : IVec S320000x128 32) : IVec S320000x128x2 32 :=
  concatenate S320000x128x2 2
    [⟨S320000x128x1, broadcastInDim S320000x128x1 ![0, 1] bcast_S320000x128_S320000x128x1_0_1 (nodeWords I)⟩,
      ⟨S320000x128x1, broadcastInDim S320000x128x1 ![0, 1] bcast_S320000x128_S320000x128x1_0_1 columnWords⟩]
    concatenates_S320000x128x1_S320000x128x1_S320000x128x2_d2

/-- A column of words made a unit axis deeper, read at one element. -/
theorem deeper_apply (W : IVec S320000x128 32) (a : Fin 320000) (b : Fin 128) :
    broadcastInDim S320000x128x1 ![0, 1] bcast_S320000x128_S320000x128x1_0_1 W (ix3 a b (0 : Fin 1)) = W (ix2 a b) :=
  broadcastInDim_apply _ _ _ _ _ fun q => by fin_cases q <;> rfl

/-- The columns' numbers, read at one element. -/
theorem columns_apply (a : Fin 320000) (b : Fin 128) : columns (ix2 a b) = BitVec.ofNat 32 b.val := by
  refine (broadcastInDim_apply _ _ _ (ix2 a b) (ix2 (0 : Fin 1) b) fun q => by fin_cases q <;> rfl).trans ?_
  exact (broadcastInDim_apply _ _ _ (ix2 (0 : Fin 1) b) (ix1 b) fun q => by fin_cases q <;> rfl).trans rfl

/-- The first word of edge `a` in column `b` is its index, where that is below 2³¹; -/
theorem words_node (I : IVec S320000x128 32) (a : Fin 320000) (b : Fin 128) (h : (I (ix2 a b)).toNat < 2 ^ 31) :
    words I (ix3 a b (0 : Fin 2)) = I (ix2 a b) := by
  refine (concatenate_pair_apply_left (t := S320000x128x2) (s₁ := S320000x128x1) (s₂ := S320000x128x1) 2 _ _
    concatenates_S320000x128x1_S320000x128x1_S320000x128x2_d2 (ix3 a b (0 : Fin 2)) rfl (ix3 a b (0 : Fin 1))
    (fun q => by fin_cases q <;> rfl)).trans ?_
  exact (deeper_apply _ a b).trans (Routing.wrap_of_lt _ _ h)

/-- the second is the column's number. -/
theorem words_column (I : IVec S320000x128 32) (a : Fin 320000) (b : Fin 128) :
    words I (ix3 a b (1 : Fin 2)) = BitVec.ofNat 32 b.val := by
  refine (concatenate_pair_apply_right (t := S320000x128x2) (s₁ := S320000x128x1) (s₂ := S320000x128x1) 2 _ _
    concatenates_S320000x128x1_S320000x128x1_S320000x128x2_d2 (ix3 a b (1 : Fin 2)) rfl rfl (ix3 a b (0 : Fin 1))
    (fun q hq => by fin_cases q <;> first | rfl | exact absurd rfl hq) rfl).trans ?_
  refine (deeper_apply _ a b).trans ?_
  have h := columns_apply a b
  have hb : (BitVec.ofNat 32 b.val).toNat < 2 ^ 31 := by
    rw [BitVec.toNat_ofNat]
    have := b.isLt
    omega
  refine (Routing.wrap_of_lt (columns (ix2 a b)) _ ?_).trans h
  rw [h]; exact hb

/-- A small word read as a signed number is the number. -/
theorem toInt_small (v : BitVec 32) (h : v.toNat < 2 ^ 31) : v.toInt = (v.toNat : ℤ) := by
  rw [BitVec.toInt_eq_toNat_cond]
  omega

/-- The weight of edge `a` in column `b` lands at node `n`, column `c`, exactly if its index is `n` and `b` is `c`. -/
theorem lands (I : IVec S320000x128 32) (hI : ∀ x, (I x).toNat < 10000) (a : Fin 320000) (b : Fin 128) (n : Fin 10000) (c : Fin 128) :
    scatter_S10000x128_S320000x128x2_S320000x128_n_01_01_2.resultIdx? (ix2 a b) (words I) = some (ix2 n c)
      ↔ (I (ix2 a b)).toNat = n.val ∧ b = c := by
  have hi := hI (ix2 a b)
  refine (Routing.scatter_lands2 scatter_S10000x128_S320000x128x2_S320000x128_n_01_01_2 rfl rfl rfl (words I) a b n c).trans ?_
  rw [words_node I a b (by omega), words_column, toInt_small _ (by omega), toInt_small _ (by rw [BitVec.toNat_ofNat]; have := b.isLt; omega),
    BitVec.toNat_ofNat, Nat.mod_eq_of_lt (by have := b.isLt; omega)]
  constructor
  · rintro ⟨h, h'⟩
    exact ⟨by exact_mod_cast h, Fin.ext (by exact_mod_cast h')⟩
  · rintro ⟨h, rfl⟩
    exact ⟨by exact_mod_cast h, rfl⟩

/-- The edge arrays' indices are the pairs of an edge and a column. -/
def pairs : Fin 320000 × Fin 128 ≃ S320000x128.Idx where
  toFun p := ix2 p.1 p.2
  invFun j := (j 0, j 1)
  left_inv _ := rfl
  right_inv j := funext fun q => by fin_cases q <;> rfl

/-- The scatter at one element: the base there plus what all the edges add. -/
theorem scatter_sum (I : IVec S320000x128 32) (hI : ∀ x, (I x).toNat < 10000) (B : S10000x128.Idx → EReal) (X : S320000x128.Idx → EReal)
    (n : Fin 10000) (c : Fin 128) :
    Host.scatterAdd (F := Ideal) (φ := .f32) scatter_S10000x128_S320000x128x2_S320000x128_n_01_01_2 B (words I) X (ix2 n c)
      = B (ix2 n c) + ∑ e ∈ Finset.range 320000, share I X n.val c.val e := by
  show B (ix2 n c) + ∑ j ∈ _, X j = _
  refine congrArg (fun z : EReal => B (ix2 n c) + z) ?_
  rw [Finset.sum_filter, ← pairs.sum_comp, Fintype.sum_prod_type, ← Fin.sum_univ_eq_sum_range (share I X n.val c.val) 320000]
  refine Finset.sum_congr rfl fun a _ => ?_
  rw [Finset.sum_eq_single c]
  · have e : edgeAt a.val c.val = ix2 a c := by
      funext q
      fin_cases q
      · exact Fin.ext (Nat.mod_eq_of_lt a.isLt)
      · exact Fin.ext (Nat.mod_eq_of_lt c.isLt)
    unfold share
    rw [e]
    exact if_congr ((lands I hI a c n c).trans (and_iff_left rfl)) rfl rfl
  · intro b _ hb
    exact if_neg fun h => hb ((lands I hI a b n c).1 h).2
  · intro h
    exact absurd (Finset.mem_univ c) h

/-- The reference's result is the same quotient as the kernel's. -/
theorem reference_eq (I : IVec S320000x128 32) (hI : ∀ x, (I x).toNat < 10000) (N B : S10000x128.Idx → EReal) (X : S320000x128.Idx → EReal) :
    Host.divf (F := Ideal) (φ := .f32) N
        (Host.scatterAdd (F := Ideal) (φ := .f32) scatter_S10000x128_S320000x128x2_S320000x128_n_01_01_2 B (words I) X)
      = quotient I N B X := by
  funext y
  have hy : y = ix2 (y 0 : Fin 10000) (y 1 : Fin 128) := funext fun q => by fin_cases q <;> rfl
  show Ideal.div (N y) _ = Ideal.div (N y) _
  refine congrArg (Ideal.div (N y)) ?_
  rw [hy]
  exact scatter_sum I hI B X (y 0) (y 1)

end Cert.Proof.Edge

end
-- ==== Proof.Algebraic.lean ====
/-
  The value claim: over the extended reals the kernel and the reference end with the same result.
-/
module

public import proofs.«01_k».proof.Proof.Frames
public import proofs.«01_k».proof.Proof.RefSum

@[expose] public section

noncomputable section

namespace Cert.Proof.Edge

open Idealize.ShloMosaic Idealize.SL.Sem

/-- The reference's frame, stated where the precondition holds. -/
theorem frame_reference_pre : Cert.quiescent_ReferenceIdeal_pre_rows_in_range := fun m ρ _ => frame_reference m ρ trivial

/-- From the same arguments, every index naming a node, the two programs end with the same result on every device. -/
theorem algebraic : Cert.algebraic_KernelIdeal_ReferenceIdeal := by
  intro m g m' g' hpre hargs
  have hin : ∀ d x, (idxOf (F := Ideal) m d x).toNat < 10000 := fun d x => in_range _ _ _ _ (hpre d) x
  refine ⟨fun d => quotient (idxOf (F := Ideal) m d) (denOf (F := Ideal) m d) (baseOf (F := Ideal) m d) (edgeOf (F := Ideal) m d), ?_, ?_⟩
  · exact (θ_run Cert.KernelIdeal.defs _ _).mono
      (fun _ h c => ⟨(h.1 c).2.trans (combined_eq _ _ _ _), (h.1 c).1⟩) (run_main (F := Ideal) m g hin)
  · refine (θ_run Cert.ReferenceIdeal.defs _ _).mono (fun r h c => ⟨(h c).1.trans ?_, (h c).2⟩)
      (Cert.ReferenceIdeal.Value.run (F := Ideal) m' g')
    obtain ⟨h0, h1, h2, h3⟩ := hargs c
    rw [h0, h1, h2, h3]
    exact reference_eq _ (hin c) _ _ _

end Cert.Proof.Edge

end
-- ==== Proof.lean ====
/-
  Every claim about the kernel and its reference, assembled: the frames of the kernel, of its idealization and of the
  reference, and the equality of their results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_rows_in_range
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- All the claims. -/
theorem claim : Cert.Claim := ⟨Cert.Kernel.Gen.facts, Cert.KernelIdeal.Gen.facts, Cert.ReferenceIdeal.Gen.facts, Cert.Pre_rows_in_range.Gen.facts,
  Edge.frame_kernel, Edge.frame_ideal, Edge.frame_reference, Edge.frame_reference_pre, trivial, Edge.algebraic⟩

end Cert.Proof

end
